-- ==== Defs.lean ====
def Pre_KernelIdeal (m : (ℓ : Loc Cert.KernelIdeal.nD Cert.KernelIdeal.τ Cert.KernelIdeal.sig) → Buf (Elt Ideal) ℓ) : Prop :=
  True

def Pre_KernelIdeal_finite_with_few_ties [hPre_finite_with_few_ties : Cert.Pre_finite_with_few_ties.Facts] (m : (ℓ : Loc Cert.KernelIdeal.nD Cert.KernelIdeal.τ Cert.KernelIdeal.sig) → Buf (Elt Ideal) ℓ) : Prop :=
  ∀ c : Dev Cert.KernelIdeal.nD,
    (Cert.Pre_finite_with_few_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_with_few_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_with_few_ties [hPre_finite_with_few_ties : Cert.Pre_finite_with_few_ties.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_with_few_ties.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_with_few_ties.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_with_few_ties [hKernelIdeal : Cert.KernelIdeal.Facts] [hPre_finite_with_few_ties : Cert.Pre_finite_with_few_ties.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_with_few_ties m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_with_few_ties [hReferenceIdeal : Cert.ReferenceIdeal.Facts] [hPre_finite_with_few_ties : Cert.Pre_finite_with_few_ties.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_with_few_ties m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def algebraic_KernelIdeal_ReferenceIdeal_pre_finite_with_few_ties [hKernelIdeal : Cert.KernelIdeal.Facts] [hReferenceIdeal : Cert.ReferenceIdeal.Facts] [hPre_finite_with_few_ties : Cert.Pre_finite_with_few_ties.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_with_few_ties m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernelIdeal : Cert.KernelIdeal.Facts) (hReferenceIdeal : Cert.ReferenceIdeal.Facts) (hPre_finite_with_few_ties : Cert.Pre_finite_with_few_ties.Facts),
    quiescent_KernelIdeal (hKernelIdeal := hKernelIdeal)
    ∧ quiescent_KernelIdeal_pre_finite_with_few_ties (hKernelIdeal := hKernelIdeal) (hPre_finite_with_few_ties := hPre_finite_with_few_ties)
    ∧ quiescent_ReferenceIdeal (hReferenceIdeal := hReferenceIdeal)
    ∧ quiescent_ReferenceIdeal_pre_finite_with_few_ties (hReferenceIdeal := hReferenceIdeal) (hPre_finite_with_few_ties := hPre_finite_with_few_ties)
    ∧ algebraic_KernelIdeal_ReferenceIdeal_pre_finite_with_few_ties (hKernelIdeal := hKernelIdeal) (hReferenceIdeal := hReferenceIdeal) (hPre_finite_with_few_ties := hPre_finite_with_few_ties)
-- ==== Pre_finite_with_few_ties.lean ====
abbrev S4x8192x768 : Shape := ⟨3, ![4, 8192, 768]⟩
abbrev S768x1 : Shape := ⟨2, ![768, 1]⟩
abbrev S4x8192x1 : Shape := ⟨3, ![4, 8192, 1]⟩
abbrev S4x8192 : Shape := ⟨2, ![4, 8192]⟩
abbrev S4x5 : Shape := ⟨2, ![4, 5]⟩
abbrev S4x1 : Shape := ⟨2, ![4, 1]⟩
abbrev S4 : Shape := ⟨1, ![4]⟩
abbrev S_ : Shape := ⟨0, ![]⟩

class Facts : Prop where
  shapeCasts_S4x8192x1_S4x8192 : S4x8192x1.ShapeCasts S4x8192
  sliceFits_S4x8192_S4x5 : S4x8192.Slices (fun _ => 0) S4x5
  slices_S4x5_S4x1_0_4 : S4x5.Slices ![0, 4] S4x1
  shapeCasts_S4x1_S4 : S4x1.ShapeCasts S4
  bcast_S4_S4x1_0 : S4.BroadcastsInDim S4x1 (![0] : Fin 1 → Fin S4x1.rank)
  bcast_S4x1_S4x8192_0_1 : S4x1.BroadcastsInDim S4x8192 (![0, 1] : Fin 2 → Fin S4x8192.rank)
  natLt_1_32 : 1 < 32
  reducesTo_S4x8192_S4_d1 : S4x8192.ReducesTo [1] S4
  h_S_ : 0 < S_.numel
  bcast_S_S4x8192x768 : S_.BroadcastsInDim S4x8192x768 (![] : Fin 0 → Fin S4x8192x768.rank)
  bcast_S_S4 : S_.BroadcastsInDim S4 (![] : Fin 0 → Fin S4.rank)
  dot_S4x8192x768_S768x1_S4x8192x1_2_0_01_1_n_n_wf : DotDims.WF S4x8192x768 S768x1 S4x8192x1 [2] [0] [0, 1] [1] [] []

variable [Facts]

def dot_S4x8192x768_S768x1_S4x8192x1_2_0_01_1_n_n : DotDims S4x8192x768 S768x1 S4x8192x1 where
  lhsContracting := [2]
  rhsContracting := [0]
  lhsNonContracting := [0, 1]
  rhsNonContracting := [1]
  lhsBatch := []
  rhsBatch := []
  wf := dot_S4x8192x768_S768x1_S4x8192x1_2_0_01_1_n_n_wf
def fn {F : FTy → Type} [FloatOps F] (main_arg0 : FVec F S4x8192x768 .f32) (main_arg1 : FVec F S768x1 .f32) : IVec S4x8192x768 1 × IVec S4 1 :=
  let main_v0 : FVec F S4x8192x1 .f32 := (fun l r => Host.dotGeneral dot_S4x8192x768_S768x1_S4x8192x1_2_0_01_1_n_n none l r) main_arg0 main_arg1
  let main_v1 : FVec F S4x8192x1 .f32 := Host.tanh main_v0
  let main_v2 : FVec F S4x8192 .f32 := shapeCast S4x8192 main_v1 shapeCasts_S4x8192x1_S4x8192
  let main_values : FVec F S4x5 .f32 := (fun x => (Host.topK S4x5 1 (FloatOps.cmpfTotal .gt) x sliceFits_S4x8192_S4x5).1) main_v2
  let main_indices : IVec S4x5 32 := (fun x => (Host.topK S4x5 1 (FloatOps.cmpfTotal .gt) x sliceFits_S4x8192_S4x5).2) main_v2
  let main_v3 : FVec F S4x1 .f32 := (extractStridedSlice S4x1 ![0, 4] · slices_S4x5_S4x1_0_4) main_values
  let main_v4 : FVec F S4 .f32 := shapeCast S4 main_v3 shapeCasts_S4x1_S4
  let main_v5 : FVec F S4x1 .f32 := broadcastInDim S4x1 ![0] bcast_S4_S4x1_0 main_v4
  let main_v6 : FVec F S4x8192 .f32 := broadcastInDim S4x8192 ![0, 1] bcast_S4x1_S4x8192_0_1 main_v5
  let main_v7 : IVec S4x8192 1 := cmpf .oge main_v2 main_v6
  let main_v8 : IVec S4x8192 32 := (extui 32 · natLt_1_32) main_v7
  let main_c : IVec S_ 32 := constantI S_ 32 0#32
  let main_v9 : IVec S4 32 := (fun x v => Host.reduce IntOp.addi x v reducesTo_S4x8192_S4_d1 h_S_) main_v8 main_c
  let main_v10 : FVec F S4x8192x768 .f32 := Host.absf main_arg0
  let main_cst : FVec F S_ .f32 := constant S_ .f32 0x7F800000#32
  let main_v11 : FVec F S4x8192x768 .f32 := broadcastInDim S4x8192x768 ![] bcast_S_S4x8192x768 main_cst
  let main_v12 : IVec S4x8192x768 1 := cmpf .olt main_v10 main_v11
  let main_c_0 : IVec S_ 32 := constantI S_ 32 8#32
  let main_v13 : IVec S4 32 := broadcastInDim S4 ![] bcast_S_S4 main_c_0
  let main_v14 : IVec S4 1 := cmpi .sle main_v9 main_v13
  let main_cst_1 : FVec F S_ .f32 := constant S_ .f32 0x00000000#32
  let main_v15 : FVec F S4 .f32 := broadcastInDim S4 ![] bcast_S_S4 main_cst_1
  let main_v16 : IVec S4 1 := cmpf .oeq main_v4 main_v15
  let main_v17 : IVec S4 1 := ori main_v14 main_v16
  (main_v12, main_v17)
-- ==== KernelIdeal.lean ====
abbrev S4x8192x768 : Shape := ⟨3, ![4, 8192, 768]⟩
abbrev S768x1 : Shape := ⟨2, ![768, 1]⟩
abbrev S4x8192 : Shape := ⟨2, ![4, 8192]⟩
abbrev S4x768 : Shape := ⟨2, ![4, 768]⟩
abbrev S4x1024x768 : Shape := ⟨3, ![4, 1024, 768]⟩
abbrev S4x1024 : Shape := ⟨2, ![4, 1024]⟩
abbrev S4096x768 : Shape := ⟨2, ![4096, 768]⟩
abbrev S4096x1 : Shape := ⟨2, ![4096, 1]⟩
abbrev S4x128 : Shape := ⟨2, ![4, 128]⟩
abbrev S32x768 : Shape := ⟨2, ![32, 768]⟩
abbrev S_ : Shape := ⟨0, ![]⟩
abbrev S4 : Shape := ⟨1, ![4]⟩
abbrev S4x1 : Shape := ⟨2, ![4, 1]⟩
abbrev S1x1 : Shape := ⟨2, ![1, 1]⟩
abbrev S1x768 : Shape := ⟨2, ![1, 768]⟩
abbrev S1x1x768 : Shape := ⟨3, ![1, 1, 768]⟩

abbrev nBuf : Space → Nat
  | .hbm => 5
  | .vmem => 12
  | .smem => 0
  | _ => 0

abbrev bufTy : (tb : Table) → Fin (tcTables nBuf tb) → BufTy
  | .hbm, ⟨0, _⟩ => ⟨S4x8192x768, .f32⟩
  | .hbm, ⟨1, _⟩ => ⟨S768x1, .f32⟩
  | .hbm, ⟨2, _⟩ => ⟨S4x8192, .f32⟩
  | .hbm, ⟨3, _⟩ => ⟨S4x768, .f32⟩
  | .hbm, ⟨4, _⟩ => ⟨S4x768, .f32⟩
  | .local _ .vmem, ⟨0, _⟩ => ⟨S4x1024x768, .f32⟩
  | .local _ .vmem, ⟨1, _⟩ => ⟨S4x1024x768, .f32⟩
  | .local _ .vmem, ⟨2, _⟩ => ⟨S768x1, .f32⟩
  | .local _ .vmem, ⟨3, _⟩ => ⟨S4x1024, .f32⟩
  | .local _ .vmem, ⟨4, _⟩ => ⟨S4x1024, .f32⟩
  | .local _ .vmem, ⟨5, _⟩ => ⟨S4x768, .f32⟩
  | .local _ .vmem, ⟨6, _⟩ => ⟨S4x8192, .f32⟩
  | .local _ .vmem, ⟨7, _⟩ => ⟨S4x768, .f32⟩
  | .local _ .vmem, ⟨8, _⟩ => ⟨S4x768, .f32⟩
  | .local _ .vmem, ⟨9, _⟩ => ⟨S4x128, .i32⟩
  | .local _ .vmem, ⟨10, _⟩ => ⟨S4x128, .f32⟩
  | .local _ .vmem, ⟨11, _⟩ => ⟨S32x768, .f32⟩
  | _, _ => ⟨S4x8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_scratch0 : Ref sig .tc := ⟨.vmem, 9, rfl⟩
abbrev cc1_scratch1 : Ref sig .tc := ⟨.vmem, 10, rfl⟩
abbrev cc1_scratch2 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc1_sem0_0 : DmaSem sig := 6
abbrev cc1_sem1_0 : DmaSem sig := 7
abbrev cc1_sem2_0 : DmaSem sig := 8

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v8 : BitVec 1 := Scalar.cmpi .eq arg0 c0_i32
  let v9 : BitVec 32 := Scalar.extui v8
  let c0_i32_7 : BitVec 32 := 0#32
  let v10 : BitVec 1 := Scalar.cmpi .ne v9 c0_i32_7
  v10

def k0_cond2 (i : grid0.Coords) : BitVec 1 :=
  let arg0 : BitVec 32 := BitVec.ofNat 32 (i 0).val
  let c0_i32_8 : BitVec 32 := 0#32
  let v11 : BitVec 1 := Scalar.cmpi .sgt arg0 c0_i32_8
  let v12 : BitVec 32 := Scalar.extui v11
  let c0_i32_9 : BitVec 32 := 0#32
  let v13 : BitVec 1 := Scalar.cmpi .ne v12 c0_i32_9
  v13

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := .none

def k1_off1 (v207 : BitVec 32) : Fin 3 → Nat :=
  let c0_i32_53 : BitVec 32 := 0#32
  let c0_i32_56 : BitVec 32 := 0#32
  ![0, v207.toNat, 0]

def k1_chk1 (v207 : BitVec 32) : Prop :=
  (∀ a, (k1_off1 v207) a + S1x1x768.size a ≤ S4x8192x768.size a)
theorem k1_off1_inb : ∀ (v207 : BitVec 32) (k1_hw1 : k1_chk1 v207), ∀ a, (k1_off1 v207) a + S1x1x768.size a ≤ S4x8192x768.size a := fun v207 k1_hw1 => k1_hw1

def k1_off2 (v212 : BitVec 32) : Fin 3 → Nat :=
  let c0_i32_58 : BitVec 32 := 0#32
  let c0_i32_61 : BitVec 32 := 0#32
  ![0, v212.toNat, 0]

def k1_chk2 (v212 : BitVec 32) : Prop :=
  (∀ a, (k1_off2 v212) a + S1x1x768.size a ≤ S4x8192x768.size a)
theorem k1_off2_inb : ∀ (v212 : BitVec 32) (k1_hw2 : k1_chk2 v212), ∀ a, (k1_off2 v212) a + S1x1x768.size a ≤ S4x8192x768.size a := fun v212 k1_hw2 => k1_hw2

def k1_off3 (v217 : BitVec 32) : Fin 3 → Nat :=
  let c0_i32_63 : BitVec 32 := 0#32
  let c0_i32_66 : BitVec 32 := 0#32
  ![0, v217.toNat, 0]

def k1_chk3 (v217 : BitVec 32) : Prop :=
  (∀ a, (k1_off3 v217) a + S1x1x768.size a ≤ S4x8192x768.size a)
theorem k1_off3_inb : ∀ (v217 : BitVec 32) (k1_hw3 : k1_chk3 v217), ∀ a, (k1_off3 v217) a + S1x1x768.size a ≤ S4x8192x768.size a := fun v217 k1_hw3 => k1_hw3

def k1_off4 (v222 : BitVec 32) : Fin 3 → Nat :=
  let c0_i32_68 : BitVec 32 := 0#32
  let c0_i32_71 : BitVec 32 := 0#32
  ![0, v222.toNat, 0]

def k1_chk4 (v222 : BitVec 32) : Prop :=
  (∀ a, (k1_off4 v222) a + S1x1x768.size a ≤ S4x8192x768.size a)
theorem k1_off4_inb : ∀ (v222 : BitVec 32) (k1_hw4 : k1_chk4 v222), ∀ a, (k1_off4 v222) a + S1x1x768.size a ≤ S4x8192x768.size a := fun v222 k1_hw4 => k1_hw4

def k1_off5 (v227 : BitVec 32) : Fin 3 → Nat :=
  let c0_i32_73 : BitVec 32 := 0#32
  let c0_i32_76 : BitVec 32 := 0#32
  ![0, v227.toNat, 0]

def k1_chk5 (v227 : BitVec 32) : Prop :=
  (∀ a, (k1_off5 v227) a + S1x1x768.size a ≤ S4x8192x768.size a)
theorem k1_off5_inb : ∀ (v227 : BitVec 32) (k1_hw5 : k1_chk5 v227), ∀ a, (k1_off5 v227) a + S1x1x768.size a ≤ S4x8192x768.size a := fun v227 k1_hw5 => k1_hw5

def k1_off6 (v232 : BitVec 32) : Fin 3 → Nat :=
  let c0_i32_78 : BitVec 32 := 0#32
  let c0_i32_81 : BitVec 32 := 0#32
  ![0, v232.toNat, 0]

def k1_chk6 (v232 : BitVec 32) : Prop :=
  (∀ a, (k1_off6 v232) a + S1x1x768.size a ≤ S4x8192x768.size a)
theorem k1_off6_inb : ∀ (v232 : BitVec 32) (k1_hw6 : k1_chk6 v232), ∀ a, (k1_off6 v232) a + S1x1x768.size a ≤ S4x8192x768.size a := fun v232 k1_hw6 => k1_hw6

def k1_off7 (v237 : BitVec 32) : Fin 3 → Nat :=
  let c0_i32_83 : BitVec 32 := 0#32
  let c0_i32_86 : BitVec 32 := 0#32
  ![0, v237.toNat, 0]

def k1_chk7 (v237 : BitVec 32) : Prop :=
  (∀ a, (k1_off7 v237) a + S1x1x768.size a ≤ S4x8192x768.size a)
theorem k1_off7_inb : ∀ (v237 : BitVec 32) (k1_hw7 : k1_chk7 v237), ∀ a, (k1_off7 v237) a + S1x1x768.size a ≤ S4x8192x768.size a := fun v237 k1_hw7 => k1_hw7

def k1_off8 (v242 : BitVec 32) : Fin 3 → Nat :=
  let c0_i32_88 : BitVec 32 := 0#32
  let c0_i32_91 : BitVec 32 := 0#32
  ![0, v242.toNat, 0]

def k1_chk8 (v242 : BitVec 32) : Prop :=
  (∀ a, (k1_off8 v242) a + S1x1x768.size a ≤ S4x8192x768.size a)
theorem k1_off8_inb : ∀ (v242 : BitVec 32) (k1_hw8 : k1_chk8 v242), ∀ a, (k1_off8 v242) a + S1x1x768.size a ≤ S4x8192x768.size a := fun v242 k1_hw8 => k1_hw8

def k1_off9 (v247 : BitVec 32) : Fin 3 → Nat :=
  let c1_i32_94 : BitVec 32 := 1#32
  let c0_i32_97 : BitVec 32 := 0#32
  ![1, v247.toNat, 0]

def k1_chk9 (v247 : BitVec 32) : Prop :=
  (∀ a, (k1_off9 v247) a + S1x1x768.size a ≤ S4x8192x768.size a)
theorem k1_off9_inb : ∀ (v247 : BitVec 32) (k1_hw9 : k1_chk9 v247), ∀ a, (k1_off9 v247) a + S1x1x768.size a ≤ S4x8192x768.size a := fun v247 k1_hw9 => k1_hw9

def k1_off10 (v252 : BitVec 32) : Fin 3 → Nat :=
  let c1_i32_100 : BitVec 32 := 1#32
  let c0_i32_102 : BitVec 32 := 0#32
  ![1, v252.toNat, 0]

def k1_chk10 (v252 : BitVec 32) : Prop :=
  (∀ a, (k1_off10 v252) a + S1x1x768.size a ≤ S4x8192x768.size a)
theorem k1_off10_inb : ∀ (v252 : BitVec 32) (k1_hw10 : k1_chk10 v252), ∀ a, (k1_off10 v252) a + S1x1x768.size a ≤ S4x8192x768.size a := fun v252 k1_hw10 => k1_hw10

def k1_off11 (v257 : BitVec 32) : Fin 3 → Nat :=
  let c1_i32_105 : BitVec 32 := 1#32
  let c0_i32_107 : BitVec 32 := 0#32
  ![1, v257.toNat, 0]

def k1_chk11 (v257 : BitVec 32) : Prop :=
  (∀ a, (k1_off11 v257) a + S1x1x768.size a ≤ S4x8192x768.size a)
theorem k1_off11_inb : ∀ (v257 : BitVec 32) (k1_hw11 : k1_chk11 v257), ∀ a, (k1_off11 v257) a + S1x1x768.size a ≤ S4x8192x768.size a := fun v257 k1_hw11 => k1_hw11

def k1_off12 (v262 : BitVec 32) : Fin 3 → Nat :=
  let c1_i32_110 : BitVec 32 := 1#32
  let c0_i32_112 : BitVec 32 := 0#32
  ![1, v262.toNat, 0]

def k1_chk12 (v262 : BitVec 32) : Prop :=
  (∀ a, (k1_off12 v262) a + S1x1x768.size a ≤ S4x8192x768.size a)
theorem k1_off12_inb : ∀ (v262 : BitVec 32) (k1_hw12 : k1_chk12 v262), ∀ a, (k1_off12 v262) a + S1x1x768.size a ≤ S4x8192x768.size a := fun v262 k1_hw12 => k1_hw12

def k1_off13 (v267 : BitVec 32) : Fin 3 → Nat :=
  let c1_i32_115 : BitVec 32 := 1#32
  let c0_i32_117 : BitVec 32 := 0#32
  ![1, v267.toNat, 0]

def k1_chk13 (v267 : BitVec 32) : Prop :=
  (∀ a, (k1_off13 v267) a + S1x1x768.size a ≤ S4x8192x768.size a)
theorem k1_off13_inb : ∀ (v267 : BitVec 32) (k1_hw13 : k1_chk13 v267), ∀ a, (k1_off13 v267) a + S1x1x768.size a ≤ S4x8192x768.size a := fun v267 k1_hw13 => k1_hw13

def k1_off14 (v272 : BitVec 32) : Fin 3 → Nat :=
  let c1_i32_120 : BitVec 32 := 1#32
  let c0_i32_122 : BitVec 32 := 0#32
  ![1, v272.toNat, 0]

def k1_chk14 (v272 : BitVec 32) : Prop :=
  (∀ a, (k1_off14 v272) a + S1x1x768.size a ≤ S4x8192x768.size a)
theorem k1_off14_inb : ∀ (v272 : BitVec 32) (k1_hw14 : k1_chk14 v272), ∀ a, (k1_off14 v272) a + S1x1x768.size a ≤ S4x8192x768.size a := fun v272 k1_hw14 => k1_hw14

def k1_off15 (v277 : BitVec 32) : Fin 3 → Nat :=
  let c1_i32_125 : BitVec 32 := 1#32
  let c0_i32_127 : BitVec 32 := 0#32
  ![1, v277.toNat, 0]

def k1_chk15 (v277 : BitVec 32) : Prop :=
  (∀ a, (k1_off15 v277) a + S1x1x768.size a ≤ S4x8192x768.size a)
theorem k1_off15_inb : ∀ (v277 : BitVec 32) (k1_hw15 : k1_chk15 v277), ∀ a, (k1_off15 v277) a + S1x1x768.size a ≤ S4x8192x768.size a := fun v277 k1_hw15 => k1_hw15

def k1_off16 (v282 : BitVec 32) : Fin 3 → Nat :=
  let c1_i32_130 : BitVec 32 := 1#32
  let c0_i32_132 : BitVec 32 := 0#32
  ![1, v282.toNat, 0]

def k1_chk16 (v282 : BitVec 32) : Prop :=
  (∀ a, (k1_off16 v282) a + S1x1x768.size a ≤ S4x8192x768.size a)
theorem k1_off16_inb : ∀ (v282 : BitVec 32) (k1_hw16 : k1_chk16 v282), ∀ a, (k1_off16 v282) a + S1x1x768.size a ≤ S4x8192x768.size a := fun v282 k1_hw16 => k1_hw16

def k1_off17 (v287 : BitVec 32) : Fin 3 → Nat :=
  let c2_i32_135 : BitVec 32 := 2#32
  let c0_i32_137 : BitVec 32 := 0#32
  ![2, v287.toNat, 0]

def k1_chk17 (v287 : BitVec 32) : Prop :=
  (∀ a, (k1_off17 v287) a + S1x1x768.size a ≤ S4x8192x768.size a)
theorem k1_off17_inb : ∀ (v287 : BitVec 32) (k1_hw17 : k1_chk17 v287), ∀ a, (k1_off17 v287) a + S1x1x768.size a ≤ S4x8192x768.size a := fun v287 k1_hw17 => k1_hw17

def k1_off18 (v292 : BitVec 32) : Fin 3 → Nat :=
  let c2_i32_140 : BitVec 32 := 2#32
  let c0_i32_142 : BitVec 32 := 0#32
  ![2, v292.toNat, 0]

def k1_chk18 (v292 : BitVec 32) : Prop :=
  (∀ a, (k1_off18 v292) a + S1x1x768.size a ≤ S4x8192x768.size a)
theorem k1_off18_inb : ∀ (v292 : BitVec 32) (k1_hw18 : k1_chk18 v292), ∀ a, (k1_off18 v292) a + S1x1x768.size a ≤ S4x8192x768.size a := fun v292 k1_hw18 => k1_hw18

def k1_off19 (v297 : BitVec 32) : Fin 3 → Nat :=
  let c2_i32_145 : BitVec 32 := 2#32
  let c0_i32_147 : BitVec 32 := 0#32
  ![2, v297.toNat, 0]

def k1_chk19 (v297 : BitVec 32) : Prop :=
  (∀ a, (k1_off19 v297) a + S1x1x768.size a ≤ S4x8192x768.size a)
theorem k1_off19_inb : ∀ (v297 : BitVec 32) (k1_hw19 : k1_chk19 v297), ∀ a, (k1_off19 v297) a + S1x1x768.size a ≤ S4x8192x768.size a := fun v297 k1_hw19 => k1_hw19

def k1_off20 (v302 : BitVec 32) : Fin 3 → Nat :=
  let c2_i32_150 : BitVec 32 := 2#32
  let c0_i32_152 : BitVec 32 := 0#32
  ![2, v302.toNat, 0]

def k1_chk20 (v302 : BitVec 32) : Prop :=
  (∀ a, (k1_off20 v302) a + S1x1x768.size a ≤ S4x8192x768.size a)
theorem k1_off20_inb : ∀ (v302 : BitVec 32) (k1_hw20 : k1_chk20 v302), ∀ a, (k1_off20 v302) a + S1x1x768.size a ≤ S4x8192x768.size a := fun v302 k1_hw20 => k1_hw20

def k1_off21 (v307 : BitVec 32) : Fin 3 → Nat :=
  let c2_i32_155 : BitVec 32 := 2#32
  let c0_i32_157 : BitVec 32 := 0#32
  ![2, v307.toNat, 0]

def k1_chk21 (v307 : BitVec 32) : Prop :=
  (∀ a, (k1_off21 v307) a + S1x1x768.size a ≤ S4x8192x768.size a)
theorem k1_off21_inb : ∀ (v307 : BitVec 32) (k1_hw21 : k1_chk21 v307), ∀ a, (k1_off21 v307) a + S1x1x768.size a ≤ S4x8192x768.size a := fun v307 k1_hw21 => k1_hw21

def k1_off22 (v312 : BitVec 32) : Fin 3 → Nat :=
  let c2_i32_160 : BitVec 32 := 2#32
  let c0_i32_162 : BitVec 32 := 0#32
  ![2, v312.toNat, 0]

def k1_chk22 (v312 : BitVec 32) : Prop :=
  (∀ a, (k1_off22 v312) a + S1x1x768.size a ≤ S4x8192x768.size a)
theorem k1_off22_inb : ∀ (v312 : BitVec 32) (k1_hw22 : k1_chk22 v312), ∀ a, (k1_off22 v312) a + S1x1x768.size a ≤ S4x8192x768.size a := fun v312 k1_hw22 => k1_hw22

def k1_off23 (v317 : BitVec 32) : Fin 3 → Nat :=
  let c2_i32_165 : BitVec 32 := 2#32
  let c0_i32_167 : BitVec 32 := 0#32
  ![2, v317.toNat, 0]

def k1_chk23 (v317 : BitVec 32) : Prop :=
  (∀ a, (k1_off23 v317) a + S1x1x768.size a ≤ S4x8192x768.size a)
theorem k1_off23_inb : ∀ (v317 : BitVec 32) (k1_hw23 : k1_chk23 v317), ∀ a, (k1_off23 v317) a + S1x1x768.size a ≤ S4x8192x768.size a := fun v317 k1_hw23 => k1_hw23

def k1_off24 (v322 : BitVec 32) : Fin 3 → Nat :=
  let c2_i32_170 : BitVec 32 := 2#32
  let c0_i32_172 : BitVec 32 := 0#32
  ![2, v322.toNat, 0]

def k1_chk24 (v322 : BitVec 32) : Prop :=
  (∀ a, (k1_off24 v322) a + S1x1x768.size a ≤ S4x8192x768.size a)
theorem k1_off24_inb : ∀ (v322 : BitVec 32) (k1_hw24 : k1_chk24 v322), ∀ a, (k1_off24 v322) a + S1x1x768.size a ≤ S4x8192x768.size a := fun v322 k1_hw24 => k1_hw24

def k1_off25 (v327 : BitVec 32) : Fin 3 → Nat :=
  let c3_i32_175 : BitVec 32 := 3#32
  let c0_i32_177 : BitVec 32 := 0#32
  ![3, v327.toNat, 0]

def k1_chk25 (v327 : BitVec 32) : Prop :=
  (∀ a, (k1_off25 v327) a + S1x1x768.size a ≤ S4x8192x768.size a)
theorem k1_off25_inb : ∀ (v327 : BitVec 32) (k1_hw25 : k1_chk25 v327), ∀ a, (k1_off25 v327) a + S1x1x768.size a ≤ S4x8192x768.size a := fun v327 k1_hw25 => k1_hw25

def k1_off26 (v332 : BitVec 32) : Fin 3 → Nat :=
  let c3_i32_180 : BitVec 32 := 3#32
  let c0_i32_182 : BitVec 32 := 0#32
  ![3, v332.toNat, 0]

def k1_chk26 (v332 : BitVec 32) : Prop :=
  (∀ a, (k1_off26 v332) a + S1x1x768.size a ≤ S4x8192x768.size a)
theorem k1_off26_inb : ∀ (v332 : BitVec 32) (k1_hw26 : k1_chk26 v332), ∀ a, (k1_off26 v332) a + S1x1x768.size a ≤ S4x8192x768.size a := fun v332 k1_hw26 => k1_hw26

def k1_off27 (v337 : BitVec 32) : Fin 3 → Nat :=
  let c3_i32_185 : BitVec 32 := 3#32
  let c0_i32_187 : BitVec 32 := 0#32
  ![3, v337.toNat, 0]

def k1_chk27 (v337 : BitVec 32) : Prop :=
  (∀ a, (k1_off27 v337) a + S1x1x768.size a ≤ S4x8192x768.size a)
theorem k1_off27_inb : ∀ (v337 : BitVec 32) (k1_hw27 : k1_chk27 v337), ∀ a, (k1_off27 v337) a + S1x1x768.size a ≤ S4x8192x768.size a := fun v337 k1_hw27 => k1_hw27

def k1_off28 (v342 : BitVec 32) : Fin 3 → Nat :=
  let c3_i32_190 : BitVec 32 := 3#32
  let c0_i32_192 : BitVec 32 := 0#32
  ![3, v342.toNat, 0]

def k1_chk28 (v342 : BitVec 32) : Prop :=
  (∀ a, (k1_off28 v342) a + S1x1x768.size a ≤ S4x8192x768.size a)
theorem k1_off28_inb : ∀ (v342 : BitVec 32) (k1_hw28 : k1_chk28 v342), ∀ a, (k1_off28 v342) a + S1x1x768.size a ≤ S4x8192x768.size a := fun v342 k1_hw28 => k1_hw28

def k1_off29 (v347 : BitVec 32) : Fin 3 → Nat :=
  let c3_i32_195 : BitVec 32 := 3#32
  let c0_i32_197 : BitVec 32 := 0#32
  ![3, v347.toNat, 0]

def k1_chk29 (v347 : BitVec 32) : Prop :=
  (∀ a, (k1_off29 v347) a + S1x1x768.size a ≤ S4x8192x768.size a)
theorem k1_off29_inb : ∀ (v347 : BitVec 32) (k1_hw29 : k1_chk29 v347), ∀ a, (k1_off29 v347) a + S1x1x768.size a ≤ S4x8192x768.size a := fun v347 k1_hw29 => k1_hw29

def k1_off30 (v352 : BitVec 32) : Fin 3 → Nat :=
  let c3_i32_200 : BitVec 32 := 3#32
  let c0_i32_202 : BitVec 32 := 0#32
  ![3, v352.toNat, 0]

def k1_chk30 (v352 : BitVec 32) : Prop :=
  (∀ a, (k1_off30 v352) a + S1x1x768.size a ≤ S4x8192x768.size a)
theorem k1_off30_inb : ∀ (v352 : BitVec 32) (k1_hw30 : k1_chk30 v352), ∀ a, (k1_off30 v352) a + S1x1x768.size a ≤ S4x8192x768.size a := fun v352 k1_hw30 => k1_hw30

def k1_off31 (v357 : BitVec 32) : Fin 3 → Nat :=
  let c3_i32_205 : BitVec 32 := 3#32
  let c0_i32_207 : BitVec 32 := 0#32
  ![3, v357.toNat, 0]

def k1_chk31 (v357 : BitVec 32) : Prop :=
  (∀ a, (k1_off31 v357) a + S1x1x768.size a ≤ S4x8192x768.size a)
theorem k1_off31_inb : ∀ (v357 : BitVec 32) (k1_hw31 : k1_chk31 v357), ∀ a, (k1_off31 v357) a + S1x1x768.size a ≤ S4x8192x768.size a := fun v357 k1_hw31 => k1_hw31

def k1_off32 (v362 : BitVec 32) : Fin 3 → Nat :=
  let c3_i32_210 : BitVec 32 := 3#32
  let c0_i32_212 : BitVec 32 := 0#32
  ![3, v362.toNat, 0]

def k1_chk32 (v362 : BitVec 32) : Prop :=
  (∀ a, (k1_off32 v362) a + S1x1x768.size a ≤ S4x8192x768.size a)
theorem k1_off32_inb : ∀ (v362 : BitVec 32) (k1_hw32 : k1_chk32 v362), ∀ a, (k1_off32 v362) a + S1x1x768.size a ≤ S4x8192x768.size a := fun v362 k1_hw32 => k1_hw32

def k1_off33 (v367 : BitVec 32) : Fin 3 → Nat :=
  let c0_i32_215 : BitVec 32 := 0#32
  let c0_i32_218 : BitVec 32 := 0#32
  ![0, v367.toNat, 0]

def k1_chk33 (v367 : BitVec 32) : Prop :=
  (∀ a, (k1_off33 v367) a + S1x1x768.size a ≤ S4x8192x768.size a)
theorem k1_off33_inb : ∀ (v367 : BitVec 32) (k1_hw33 : k1_chk33 v367), ∀ a, (k1_off33 v367) a + S1x1x768.size a ≤ S4x8192x768.size a := fun v367 k1_hw33 => k1_hw33

def k1_off34 (v372 : BitVec 32) : Fin 3 → Nat :=
  let c0_i32_221 : BitVec 32 := 0#32
  let c0_i32_224 : BitVec 32 := 0#32
  ![0, v372.toNat, 0]

def k1_chk34 (v372 : BitVec 32) : Prop :=
  (∀ a, (k1_off34 v372) a + S1x1x768.size a ≤ S4x8192x768.size a)
theorem k1_off34_inb : ∀ (v372 : BitVec 32) (k1_hw34 : k1_chk34 v372), ∀ a, (k1_off34 v372) a + S1x1x768.size a ≤ S4x8192x768.size a := fun v372 k1_hw34 => k1_hw34

def k1_off35 (v377 : BitVec 32) : Fin 3 → Nat :=
  let c0_i32_227 : BitVec 32 := 0#32
  let c0_i32_230 : BitVec 32 := 0#32
  ![0, v377.toNat, 0]

def k1_chk35 (v377 : BitVec 32) : Prop :=
  (∀ a, (k1_off35 v377) a + S1x1x768.size a ≤ S4x8192x768.size a)
theorem k1_off35_inb : ∀ (v377 : BitVec 32) (k1_hw35 : k1_chk35 v377), ∀ a, (k1_off35 v377) a + S1x1x768.size a ≤ S4x8192x768.size a := fun v377 k1_hw35 => k1_hw35

def k1_off36 (v382 : BitVec 32) : Fin 3 → Nat :=
  let c0_i32_233 : BitVec 32 := 0#32
  let c0_i32_236 : BitVec 32 := 0#32
  ![0, v382.toNat, 0]

def k1_chk36 (v382 : BitVec 32) : Prop :=
  (∀ a, (k1_off36 v382) a + S1x1x768.size a ≤ S4x8192x768.size a)
theorem k1_off36_inb : ∀ (v382 : BitVec 32) (k1_hw36 : k1_chk36 v382), ∀ a, (k1_off36 v382) a + S1x1x768.size a ≤ S4x8192x768.size a := fun v382 k1_hw36 => k1_hw36

def k1_off37 (v387 : BitVec 32) : Fin 3 → Nat :=
  let c0_i32_239 : BitVec 32 := 0#32
  let c0_i32_242 : BitVec 32 := 0#32
  ![0, v387.toNat, 0]

def k1_chk37 (v387 : BitVec 32) : Prop :=
  (∀ a, (k1_off37 v387) a + S1x1x768.size a ≤ S4x8192x768.size a)
theorem k1_off37_inb : ∀ (v387 : BitVec 32) (k1_hw37 : k1_chk37 v387), ∀ a, (k1_off37 v387) a + S1x1x768.size a ≤ S4x8192x768.size a := fun v387 k1_hw37 => k1_hw37

def k1_off38 (v392 : BitVec 32) : Fin 3 → Nat :=
  let c0_i32_245 : BitVec 32 := 0#32
  let c0_i32_248 : BitVec 32 := 0#32
  ![0, v392.toNat, 0]

def k1_chk38 (v392 : BitVec 32) : Prop :=
  (∀ a, (k1_off38 v392) a + S1x1x768.size a ≤ S4x8192x768.size a)
theorem k1_off38_inb : ∀ (v392 : BitVec 32) (k1_hw38 : k1_chk38 v392), ∀ a, (k1_off38 v392) a + S1x1x768.size a ≤ S4x8192x768.size a := fun v392 k1_hw38 => k1_hw38

def k1_off39 (v397 : BitVec 32) : Fin 3 → Nat :=
  let c0_i32_251 : BitVec 32 := 0#32
  let c0_i32_254 : BitVec 32 := 0#32
  ![0, v397.toNat, 0]

def k1_chk39 (v397 : BitVec 32) : Prop :=
  (∀ a, (k1_off39 v397) a + S1x1x768.size a ≤ S4x8192x768.size a)
theorem k1_off39_inb : ∀ (v397 : BitVec 32) (k1_hw39 : k1_chk39 v397), ∀ a, (k1_off39 v397) a + S1x1x768.size a ≤ S4x8192x768.size a := fun v397 k1_hw39 => k1_hw39

def k1_off40 (v402 : BitVec 32) : Fin 3 → Nat :=
  let c0_i32_257 : BitVec 32 := 0#32
  let c0_i32_260 : BitVec 32 := 0#32
  ![0, v402.toNat, 0]

def k1_chk40 (v402 : BitVec 32) : Prop :=
  (∀ a, (k1_off40 v402) a + S1x1x768.size a ≤ S4x8192x768.size a)
theorem k1_off40_inb : ∀ (v402 : BitVec 32) (k1_hw40 : k1_chk40 v402), ∀ a, (k1_off40 v402) a + S1x1x768.size a ≤ S4x8192x768.size a := fun v402 k1_hw40 => k1_hw40

def k1_off41 (v407 : BitVec 32) : Fin 3 → Nat :=
  let c1_i32_263 : BitVec 32 := 1#32
  let c0_i32_266 : BitVec 32 := 0#32
  ![1, v407.toNat, 0]

def k1_chk41 (v407 : BitVec 32) : Prop :=
  (∀ a, (k1_off41 v407) a + S1x1x768.size a ≤ S4x8192x768.size a)
theorem k1_off41_inb : ∀ (v407 : BitVec 32) (k1_hw41 : k1_chk41 v407), ∀ a, (k1_off41 v407) a + S1x1x768.size a ≤ S4x8192x768.size a := fun v407 k1_hw41 => k1_hw41

def k1_off42 (v412 : BitVec 32) : Fin 3 → Nat :=
  let c1_i32_269 : BitVec 32 := 1#32
  let c0_i32_272 : BitVec 32 := 0#32
  ![1, v412.toNat, 0]

def k1_chk42 (v412 : BitVec 32) : Prop :=
  (∀ a, (k1_off42 v412) a + S1x1x768.size a ≤ S4x8192x768.size a)
theorem k1_off42_inb : ∀ (v412 : BitVec 32) (k1_hw42 : k1_chk42 v412), ∀ a, (k1_off42 v412) a + S1x1x768.size a ≤ S4x8192x768.size a := fun v412 k1_hw42 => k1_hw42

def k1_off43 (v417 : BitVec 32) : Fin 3 → Nat :=
  let c1_i32_275 : BitVec 32 := 1#32
  let c0_i32_278 : BitVec 32 := 0#32
  ![1, v417.toNat, 0]

def k1_chk43 (v417 : BitVec 32) : Prop :=
  (∀ a, (k1_off43 v417) a + S1x1x768.size a ≤ S4x8192x768.size a)
theorem k1_off43_inb : ∀ (v417 : BitVec 32) (k1_hw43 : k1_chk43 v417), ∀ a, (k1_off43 v417) a + S1x1x768.size a ≤ S4x8192x768.size a := fun v417 k1_hw43 => k1_hw43

def k1_off44 (v422 : BitVec 32) : Fin 3 → Nat :=
  let c1_i32_281 : BitVec 32 := 1#32
  let c0_i32_284 : BitVec 32 := 0#32
  ![1, v422.toNat, 0]

def k1_chk44 (v422 : BitVec 32) : Prop :=
  (∀ a, (k1_off44 v422) a + S1x1x768.size a ≤ S4x8192x768.size a)
theorem k1_off44_inb : ∀ (v422 : BitVec 32) (k1_hw44 : k1_chk44 v422), ∀ a, (k1_off44 v422) a + S1x1x768.size a ≤ S4x8192x768.size a := fun v422 k1_hw44 => k1_hw44

def k1_off45 (v427 : BitVec 32) : Fin 3 → Nat :=
  let c1_i32_287 : BitVec 32 := 1#32
  let c0_i32_290 : BitVec 32 := 0#32
  ![1, v427.toNat, 0]

def k1_chk45 (v427 : BitVec 32) : Prop :=
  (∀ a, (k1_off45 v427) a + S1x1x768.size a ≤ S4x8192x768.size a)
theorem k1_off45_inb : ∀ (v427 : BitVec 32) (k1_hw45 : k1_chk45 v427), ∀ a, (k1_off45 v427) a + S1x1x768.size a ≤ S4x8192x768.size a := fun v427 k1_hw45 => k1_hw45

def k1_off46 (v432 : BitVec 32) : Fin 3 → Nat :=
  let c1_i32_293 : BitVec 32 := 1#32
  let c0_i32_296 : BitVec 32 := 0#32
  ![1, v432.toNat, 0]

def k1_chk46 (v432 : BitVec 32) : Prop :=
  (∀ a, (k1_off46 v432) a + S1x1x768.size a ≤ S4x8192x768.size a)
theorem k1_off46_inb : ∀ (v432 : BitVec 32) (k1_hw46 : k1_chk46 v432), ∀ a, (k1_off46 v432) a + S1x1x768.size a ≤ S4x8192x768.size a := fun v432 k1_hw46 => k1_hw46

def k1_off47 (v437 : BitVec 32) : Fin 3 → Nat :=
  let c1_i32_299 : BitVec 32 := 1#32
  let c0_i32_302 : BitVec 32 := 0#32
  ![1, v437.toNat, 0]

def k1_chk47 (v437 : BitVec 32) : Prop :=
  (∀ a, (k1_off47 v437) a + S1x1x768.size a ≤ S4x8192x768.size a)
theorem k1_off47_inb : ∀ (v437 : BitVec 32) (k1_hw47 : k1_chk47 v437), ∀ a, (k1_off47 v437) a + S1x1x768.size a ≤ S4x8192x768.size a := fun v437 k1_hw47 => k1_hw47

def k1_off48 (v442 : BitVec 32) : Fin 3 → Nat :=
  let c1_i32_305 : BitVec 32 := 1#32
  let c0_i32_308 : BitVec 32 := 0#32
  ![1, v442.toNat, 0]

def k1_chk48 (v442 : BitVec 32) : Prop :=
  (∀ a, (k1_off48 v442) a + S1x1x768.size a ≤ S4x8192x768.size a)
theorem k1_off48_inb : ∀ (v442 : BitVec 32) (k1_hw48 : k1_chk48 v442), ∀ a, (k1_off48 v442) a + S1x1x768.size a ≤ S4x8192x768.size a := fun v442 k1_hw48 => k1_hw48

def k1_off49 (v447 : BitVec 32) : Fin 3 → Nat :=
  let c2_i32_311 : BitVec 32 := 2#32
  let c0_i32_314 : BitVec 32 := 0#32
  ![2, v447.toNat, 0]

def k1_chk49 (v447 : BitVec 32) : Prop :=
  (∀ a, (k1_off49 v447) a + S1x1x768.size a ≤ S4x8192x768.size a)
theorem k1_off49_inb : ∀ (v447 : BitVec 32) (k1_hw49 : k1_chk49 v447), ∀ a, (k1_off49 v447) a + S1x1x768.size a ≤ S4x8192x768.size a := fun v447 k1_hw49 => k1_hw49

def k1_off50 (v452 : BitVec 32) : Fin 3 → Nat :=
  let c2_i32_317 : BitVec 32 := 2#32
  let c0_i32_320 : BitVec 32 := 0#32
  ![2, v452.toNat, 0]

def k1_chk50 (v452 : BitVec 32) : Prop :=
  (∀ a, (k1_off50 v452) a + S1x1x768.size a ≤ S4x8192x768.size a)
theorem k1_off50_inb : ∀ (v452 : BitVec 32) (k1_hw50 : k1_chk50 v452), ∀ a, (k1_off50 v452) a + S1x1x768.size a ≤ S4x8192x768.size a := fun v452 k1_hw50 => k1_hw50

def k1_off51 (v457 : BitVec 32) : Fin 3 → Nat :=
  let c2_i32_323 : BitVec 32 := 2#32
  let c0_i32_326 : BitVec 32 := 0#32
  ![2, v457.toNat, 0]

def k1_chk51 (v457 : BitVec 32) : Prop :=
  (∀ a, (k1_off51 v457) a + S1x1x768.size a ≤ S4x8192x768.size a)
theorem k1_off51_inb : ∀ (v457 : BitVec 32) (k1_hw51 : k1_chk51 v457), ∀ a, (k1_off51 v457) a + S1x1x768.size a ≤ S4x8192x768.size a := fun v457 k1_hw51 => k1_hw51

def k1_off52 (v462 : BitVec 32) : Fin 3 → Nat :=
  let c2_i32_329 : BitVec 32 := 2#32
  let c0_i32_332 : BitVec 32 := 0#32
  ![2, v462.toNat, 0]

def k1_chk52 (v462 : BitVec 32) : Prop :=
  (∀ a, (k1_off52 v462) a + S1x1x768.size a ≤ S4x8192x768.size a)
theorem k1_off52_inb : ∀ (v462 : BitVec 32) (k1_hw52 : k1_chk52 v462), ∀ a, (k1_off52 v462) a + S1x1x768.size a ≤ S4x8192x768.size a := fun v462 k1_hw52 => k1_hw52

def k1_off53 (v467 : BitVec 32) : Fin 3 → Nat :=
  let c2_i32_335 : BitVec 32 := 2#32
  let c0_i32_338 : BitVec 32 := 0#32
  ![2, v467.toNat, 0]

def k1_chk53 (v467 : BitVec 32) : Prop :=
  (∀ a, (k1_off53 v467) a + S1x1x768.size a ≤ S4x8192x768.size a)
theorem k1_off53_inb : ∀ (v467 : BitVec 32) (k1_hw53 : k1_chk53 v467), ∀ a, (k1_off53 v467) a + S1x1x768.size a ≤ S4x8192x768.size a := fun v467 k1_hw53 => k1_hw53

def k1_off54 (v472 : BitVec 32) : Fin 3 → Nat :=
  let c2_i32_341 : BitVec 32 := 2#32
  let c0_i32_344 : BitVec 32 := 0#32
  ![2, v472.toNat, 0]

def k1_chk54 (v472 : BitVec 32) : Prop :=
  (∀ a, (k1_off54 v472) a + S1x1x768.size a ≤ S4x8192x768.size a)
theorem k1_off54_inb : ∀ (v472 : BitVec 32) (k1_hw54 : k1_chk54 v472), ∀ a, (k1_off54 v472) a + S1x1x768.size a ≤ S4x8192x768.size a := fun v472 k1_hw54 => k1_hw54

def k1_off55 (v477 : BitVec 32) : Fin 3 → Nat :=
  let c2_i32_347 : BitVec 32 := 2#32
  let c0_i32_350 : BitVec 32 := 0#32
  ![2, v477.toNat, 0]

def k1_chk55 (v477 : BitVec 32) : Prop :=
  (∀ a, (k1_off55 v477) a + S1x1x768.size a ≤ S4x8192x768.size a)
theorem k1_off55_inb : ∀ (v477 : BitVec 32) (k1_hw55 : k1_chk55 v477), ∀ a, (k1_off55 v477) a + S1x1x768.size a ≤ S4x8192x768.size a := fun v477 k1_hw55 => k1_hw55

def k1_off56 (v482 : BitVec 32) : Fin 3 → Nat :=
  let c2_i32_353 : BitVec 32 := 2#32
  let c0_i32_356 : BitVec 32 := 0#32
  ![2, v482.toNat, 0]

def k1_chk56 (v482 : BitVec 32) : Prop :=
  (∀ a, (k1_off56 v482) a + S1x1x768.size a ≤ S4x8192x768.size a)
theorem k1_off56_inb : ∀ (v482 : BitVec 32) (k1_hw56 : k1_chk56 v482), ∀ a, (k1_off56 v482) a + S1x1x768.size a ≤ S4x8192x768.size a := fun v482 k1_hw56 => k1_hw56

def k1_off57 (v487 : BitVec 32) : Fin 3 → Nat :=
  let c3_i32_359 : BitVec 32 := 3#32
  let c0_i32_362 : BitVec 32 := 0#32
  ![3, v487.toNat, 0]

def k1_chk57 (v487 : BitVec 32) : Prop :=
  (∀ a, (k1_off57 v487) a + S1x1x768.size a ≤ S4x8192x768.size a)
theorem k1_off57_inb : ∀ (v487 : BitVec 32) (k1_hw57 : k1_chk57 v487), ∀ a, (k1_off57 v487) a + S1x1x768.size a ≤ S4x8192x768.size a := fun v487 k1_hw57 => k1_hw57

def k1_off58 (v492 : BitVec 32) : Fin 3 → Nat :=
  let c3_i32_365 : BitVec 32 := 3#32
  let c0_i32_368 : BitVec 32 := 0#32
  ![3, v492.toNat, 0]

def k1_chk58 (v492 : BitVec 32) : Prop :=
  (∀ a, (k1_off58 v492) a + S1x1x768.size a ≤ S4x8192x768.size a)
theorem k1_off58_inb : ∀ (v492 : BitVec 32) (k1_hw58 : k1_chk58 v492), ∀ a, (k1_off58 v492) a + S1x1x768.size a ≤ S4x8192x768.size a := fun v492 k1_hw58 => k1_hw58

def k1_off59 (v497 : BitVec 32) : Fin 3 → Nat :=
  let c3_i32_371 : BitVec 32 := 3#32
  let c0_i32_374 : BitVec 32 := 0#32
  ![3, v497.toNat, 0]

def k1_chk59 (v497 : BitVec 32) : Prop :=
  (∀ a, (k1_off59 v497) a + S1x1x768.size a ≤ S4x8192x768.size a)
theorem k1_off59_inb : ∀ (v497 : BitVec 32) (k1_hw59 : k1_chk59 v497), ∀ a, (k1_off59 v497) a + S1x1x768.size a ≤ S4x8192x768.size a := fun v497 k1_hw59 => k1_hw59

def k1_off60 (v502 : BitVec 32) : Fin 3 → Nat :=
  let c3_i32_377 : BitVec 32 := 3#32
  let c0_i32_380 : BitVec 32 := 0#32
  ![3, v502.toNat, 0]

def k1_chk60 (v502 : BitVec 32) : Prop :=
  (∀ a, (k1_off60 v502) a + S1x1x768.size a ≤ S4x8192x768.size a)
theorem k1_off60_inb : ∀ (v502 : BitVec 32) (k1_hw60 : k1_chk60 v502), ∀ a, (k1_off60 v502) a + S1x1x768.size a ≤ S4x8192x768.size a := fun v502 k1_hw60 => k1_hw60

def k1_off61 (v507 : BitVec 32) : Fin 3 → Nat :=
  let c3_i32_383 : BitVec 32 := 3#32
  let c0_i32_386 : BitVec 32 := 0#32
  ![3, v507.toNat, 0]

def k1_chk61 (v507 : BitVec 32) : Prop :=
  (∀ a, (k1_off61 v507) a + S1x1x768.size a ≤ S4x8192x768.size a)
theorem k1_off61_inb : ∀ (v507 : BitVec 32) (k1_hw61 : k1_chk61 v507), ∀ a, (k1_off61 v507) a + S1x1x768.size a ≤ S4x8192x768.size a := fun v507 k1_hw61 => k1_hw61

def k1_off62 (v512 : BitVec 32) : Fin 3 → Nat :=
  let c3_i32_389 : BitVec 32 := 3#32
  let c0_i32_392 : BitVec 32 := 0#32
  ![3, v512.toNat, 0]

def k1_chk62 (v512 : BitVec 32) : Prop :=
  (∀ a, (k1_off62 v512) a + S1x1x768.size a ≤ S4x8192x768.size a)
theorem k1_off62_inb : ∀ (v512 : BitVec 32) (k1_hw62 : k1_chk62 v512), ∀ a, (k1_off62 v512) a + S1x1x768.size a ≤ S4x8192x768.size a := fun v512 k1_hw62 => k1_hw62

def k1_off63 (v517 : BitVec 32) : Fin 3 → Nat :=
  let c3_i32_395 : BitVec 32 := 3#32
  let c0_i32_398 : BitVec 32 := 0#32
  ![3, v517.toNat, 0]

def k1_chk63 (v517 : BitVec 32) : Prop :=
  (∀ a, (k1_off63 v517) a + S1x1x768.size a ≤ S4x8192x768.size a)
theorem k1_off63_inb : ∀ (v517 : BitVec 32) (k1_hw63 : k1_chk63 v517), ∀ a, (k1_off63 v517) a + S1x1x768.size a ≤ S4x8192x768.size a := fun v517 k1_hw63 => k1_hw63

def k1_off64 (v522 : BitVec 32) : Fin 3 → Nat :=
  let c3_i32_401 : BitVec 32 := 3#32
  let c0_i32_404 : BitVec 32 := 0#32
  ![3, v522.toNat, 0]

def k1_chk64 (v522 : BitVec 32) : Prop :=
  (∀ a, (k1_off64 v522) a + S1x1x768.size a ≤ S4x8192x768.size a)
theorem k1_off64_inb : ∀ (v522 : BitVec 32) (k1_hw64 : k1_chk64 v522), ∀ a, (k1_off64 v522) a + S1x1x768.size a ≤ S4x8192x768.size a := fun v522 k1_hw64 => k1_hw64

abbrev stage1_0 : Fin 1 → Memref sig .tc .vmem S4x8192 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S4x768 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S4x768 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
-- ==== ReferenceIdeal.lean ====
abbrev S4x8192x768 : Shape := ⟨3, ![4, 8192, 768]⟩
abbrev S768x1 : Shape := ⟨2, ![768, 1]⟩
abbrev S4x8192x1 : Shape := ⟨3, ![4, 8192, 1]⟩
abbrev S4x8192 : Shape := ⟨2, ![4, 8192]⟩
abbrev S4x5 : Shape := ⟨2, ![4, 5]⟩
abbrev S4x1 : Shape := ⟨2, ![4, 1]⟩
abbrev S_ : Shape := ⟨0, ![]⟩
abbrev S4 : Shape := ⟨1, ![4]⟩
abbrev S4x768 : Shape := ⟨2, ![4, 768]⟩

abbrev nBuf : Space → Nat
  | .hbm => 31
  | .vmem => 0
  | .smem => 0
  | _ => 0

abbrev bufTy : (tb : Table) → Fin (tcTables nBuf tb) → BufTy
  | .hbm, ⟨0, _⟩ => ⟨S4x8192x768, .f32⟩
  | .hbm, ⟨1, _⟩ => ⟨S768x1, .f32⟩
  | .hbm, ⟨2, _⟩ => ⟨S4x8192x1, .f32⟩
  | .hbm, ⟨3, _⟩ => ⟨S4x8192x1, .f32⟩
  | .hbm, ⟨4, _⟩ => ⟨S4x8192, .f32⟩
  | .hbm, ⟨5, _⟩ => ⟨S4x5, .f32⟩
  | .hbm, ⟨6, _⟩ => ⟨S4x5, .i32⟩
  | .hbm, ⟨7, _⟩ => ⟨S4x1, .f32⟩
  | .hbm, ⟨8, _⟩ => ⟨S4x8192, .f32⟩
  | .hbm, ⟨9, _⟩ => ⟨S4x8192, .i1⟩
  | .hbm, ⟨10, _⟩ => ⟨S4x8192, .f32⟩
  | .hbm, ⟨11, _⟩ => ⟨S4x8192, .f32⟩
  | .hbm, ⟨12, _⟩ => ⟨S_, .f32⟩
  | .hbm, ⟨13, _⟩ => ⟨S4, .f32⟩
  | .hbm, ⟨14, _⟩ => ⟨S_, .f32⟩
  | .hbm, ⟨15, _⟩ => ⟨S4, .f32⟩
  | .hbm, ⟨16, _⟩ => ⟨S4, .f32⟩
  | .hbm, ⟨17, _⟩ => ⟨S4x1, .f32⟩
  | .hbm, ⟨18, _⟩ => ⟨S4x8192, .f32⟩
  | .hbm, ⟨19, _⟩ => ⟨S4x8192, .f32⟩
  | .hbm, ⟨20, _⟩ => ⟨S4x8192, .f32⟩
  | .hbm, ⟨21, _⟩ => ⟨S_, .f32⟩
  | .hbm, ⟨22, _⟩ => ⟨S4, .f32⟩
  | .hbm, ⟨23, _⟩ => ⟨S4x1, .f32⟩
  | .hbm, ⟨24, _⟩ => ⟨S4x8192, .f32⟩
  | .hbm, ⟨25, _⟩ => ⟨S4x8192, .f32⟩
  | .hbm, ⟨26, _⟩ => ⟨S4x8192x1, .f32⟩
  | .hbm, ⟨27, _⟩ => ⟨S4x8192x768, .f32⟩
  | .hbm, ⟨28, _⟩ => ⟨S4x8192x768, .f32⟩
  | .hbm, ⟨29, _⟩ => ⟨S_, .f32⟩
  | .hbm, ⟨30, _⟩ => ⟨S4x768, .f32⟩
  | _, _ => ⟨S4x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_values : Ref sig .tc := ⟨.hbm, 5, rfl⟩
abbrev main_indices : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Proof.Pass.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.Frame
public import Idealize.ShloMosaic.Lib.Pipeline.FrameBody
public import Idealize.ShloMosaic.Lib.Pipeline.TableIdle
public import Idealize.ShloMosaic.Lib.Pipeline.Value
public import Idealize.ShloMosaic.Lib.Ring
public import Idealize.ShloMosaic.Lib.Tactic
public import Idealize.ShloMosaic.Lib.WordCmp

/-! The first call: one chunk of 1024 positions per grid point. The body writes the chunk's scores and adds the
chunk's rows to a running sum that lives in one buffer from the first point to the last. -/

@[expose] public section

set_option maxRecDepth 16384

noncomputable section

namespace Cert.KernelIdeal.Pass

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

theorem z2 : (![0, 0] : Fin 2 → Nat) = fun _ => 0 := by funext a; fin_cases a <;> rfl
theorem z3 : (![0, 0, 0] : Fin 3 → Nat) = fun _ => 0 := by funext a; fin_cases a <;> rfl

/-- Reading back one store that fills the whole buffer gives what was stored. -/
theorem read_whole {S : Shape} {e : EltTy} (r : View sig .tc .vmem S e) (g : r.ty.Contents (Elt F)) {off : Fin S.rank → Nat} (hoff : off = fun _ => 0)
    (inb : ∀ a, off a + S.size a ≤ S.size a) (d : S.Idx → Elt F e) :
    r.read (Elt F) (r.writes (Elt F) g [⟨Rect.unit off S.size inb, d⟩]) = d := by
  rw [View.read_writes_eq_canon _ _ _ (fun y => ⟨_, List.mem_singleton_self _, View.mem_set_unit_zero hoff inb y⟩),
    View.canon_unit_zero hoff]

/-- Loading a whole buffer that holds `x` gives `x`. -/
theorem load_whole {S : Shape} {e : EltTy} (M : Memref sig .tc .vmem S e) (h : M.IsWhole) {off : Fin S.rank → Nat} (hoff : off = fun _ => 0)
    (inb : ∀ a, off a + S.size a ≤ S.size a) (x : S.Idx → Elt F e) :
    M.view.readAt (Elt F) (Rect.unit off S.size inb).toLoadRect (h.unread x) = x := by
  have h' : M.view.readAt (Elt F) (Rect.unit off S.size inb).toLoadRect (h.unread x)
      = View.ld (M.view.read (Elt F) (h.unread x)) (Rect.unit off S.size inb) := rfl
  rw [h', h.read_unread]
  exact View.ld_unit_zero hoff inb x

/-- The body has just started its sum. -/
abbrev start (i : grid0.Coords) : Prop := k0_cond1 i = 1#1
/-- The body adds to the sum of the point before. -/
abbrev goOn (i : grid0.Coords) : Prop := k0_cond2 i = 1#1

theorem start_iff : ∀ t : Fin grid0.N, start (grid0.coords t) ↔ t.val = 0 := by decide +kernel
theorem goOn_iff : ∀ t : Fin grid0.N, goOn (grid0.coords t) ↔ t.val ≠ 0 := by decide +kernel

/-- What a body run needs and what it hands on, given the running sum before (`pre`) and after. -/
abbrev Triple (c : Dev nD) (i : grid0.Coords) (arg1 : Memref sig .tc .vmem S4x1024x768 .f32) (harg1 : arg1.IsWhole) (arg2 : Memref sig .tc .vmem S768x1 .f32) (harg2 : arg2.IsWhole)
    (arg3 : Memref sig .tc .vmem S4x1024 .f32) (harg3 : arg3.IsWhole) (arg4 : Memref sig .tc .vmem S4x768 .f32) (harg4 : arg4.IsWhole)
    (x0 : Vec F S4x1024x768 .f32) (x1 : Vec F S768x1 .f32) (pre : sProp 𝕄) (post : Vec F S4x768 .f32) : Prop :=
  ∀ (K : PUnit → sProp 𝕄),
    iprop(owns (c : Thread nD τ) arg1 fullShare x0 ∗ owns (c : Thread nD τ) arg2 fullShare x1 ∗ (∃ d, owns (c : Thread nD τ) arg3 fullShare d) ∗ pre
        ∗ (iprop(owns (c : Thread nD τ) arg1 fullShare x0 ∗ owns (c : Thread nD τ) arg2 fullShare x1 ∗ owns (c : Thread nD τ) arg3 fullShare (k0_pay1 x0 x1)
            ∗ owns (c : Thread nD τ) arg4 fullShare post) -∗ K ⟨⟩))
      ⊢ wp frame (wpE (defs₀ (F := F)) Variants.none c none) Set.univ (cc0__pass1_body i arg1 harg1 arg2 harg2 arg3 harg3 arg4 harg4) K

set_option maxHeartbeats 1000000 in
/-- The first point: the sum is the chunk's own. -/
theorem run_first (c : Dev nD) (i : grid0.Coords) (arg1 : Memref sig .tc .vmem S4x1024x768 .f32) (harg1 : arg1.IsWhole) (arg2 : Memref sig .tc .vmem S768x1 .f32) (harg2 : arg2.IsWhole)
    (arg3 : Memref sig .tc .vmem S4x1024 .f32) (harg3 : arg3.IsWhole) (arg4 : Memref sig .tc .vmem S4x768 .f32) (harg4 : arg4.IsWhole)
    (h0 : start i) (h1 : ¬goOn i) (x0 : Vec F S4x1024x768 .f32) (x1 : Vec F S768x1 .f32) :
    Triple c i arg1 harg1 arg2 harg2 arg3 harg3 arg4 harg4 x0 x1 iprop(∃ d, owns (c : Thread nD τ) arg4 fullShare d) (k0_pay2 x0) := by
  intro K
  simp only [cc0__pass1_body_eq_skeleton]; unfold cc0__pass1_body_skel
  unfold owns
  iintro ⟨⟨%f0, %hf0, H0⟩, ⟨%f1, %hf1, H1⟩, ⟨%d2, %f2, -, H2⟩, ⟨%d3, %f3, -, H3⟩, Hk⟩
  obtain rfl := harg1.eq_unread hf0; obtain rfl := harg2.eq_unread hf1
  have e0 := load_whole (F := F) arg1 harg1 z3 inb_S4x1024x768_S4x1024x768_0_0_0 x0
  have e1 := load_whole (F := F) arg2 harg2 z2 inb_S768x1_S768x1_0_0 x1
  sl_exec (disch := first | sl_exact h0 | sl_exact h1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro; rw [read_whole (F := F) (S := S4x1024) _ _ z2]
  iexists _; isplitr; swap; · iexact H3
  ipureintro; rw [read_whole (F := F) (S := S4x768) _ _ z2]

set_option maxHeartbeats 1000000 in
/-- A later point: the sum grows by the chunk's. -/
theorem run_later (c : Dev nD) (i : grid0.Coords) (arg1 : Memref sig .tc .vmem S4x1024x768 .f32) (harg1 : arg1.IsWhole) (arg2 : Memref sig .tc .vmem S768x1 .f32) (harg2 : arg2.IsWhole)
    (arg3 : Memref sig .tc .vmem S4x1024 .f32) (harg3 : arg3.IsWhole) (arg4 : Memref sig .tc .vmem S4x768 .f32) (harg4 : arg4.IsWhole)
    (h0 : ¬start i) (h1 : goOn i) (x0 : Vec F S4x1024x768 .f32) (x1 : Vec F S768x1 .f32) (s : Vec F S4x768 .f32) :
    Triple c i arg1 harg1 arg2 harg2 arg3 harg3 arg4 harg4 x0 x1 (owns (c : Thread nD τ) arg4 fullShare s) (k0_pay3 x0 s) := by
  intro K
  simp only [cc0__pass1_body_eq_skeleton]; unfold cc0__pass1_body_skel
  unfold owns
  iintro ⟨⟨%f0, %hf0, H0⟩, ⟨%f1, %hf1, H1⟩, ⟨%d2, %f2, -, H2⟩, ⟨%f3, %hf3, H3⟩, Hk⟩
  obtain rfl := harg1.eq_unread hf0; obtain rfl := harg2.eq_unread hf1; obtain rfl := harg4.eq_unread hf3
  have e0 := load_whole (F := F) arg1 harg1 z3 inb_S4x1024x768_S4x1024x768_0_0_0 x0
  have e1 := load_whole (F := F) arg2 harg2 z2 inb_S768x1_S768x1_0_0 x1
  have e3 := load_whole (F := F) arg4 harg4 z2 inb_S4x768_S4x768_0_0 s
  sl_exec (disch := first | sl_exact h0 | sl_exact h1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro; rw [read_whole (F := F) (S := S4x1024) _ _ z2]
  iexists _; isplitr; swap; · iexact H3
  ipureintro; rw [read_whole (F := F) (S := S4x768) _ _ z2]

/-! ## The proof data -/

variable (A : (c : Dev nD) → (b : Ref sig .tc) → Buf (Elt F) ((c : Thread nD τ).loc b))

/-- Window `w`'s block at point `t`, off the arrays as the call finds them. -/
def blk (c : Dev nD) (w : Fin cfg0.W) (t : Fin cfg0.N) : ((cfg0.win w).xblock (cfg0.grid.coords t)).Idx → Elt F (cfg0.win w).elt :=
  ((cfg0.win w).blk t).view.read (Elt F) (A c (Pipeline.arrRef spec0 w))

/-- The running sum after point `n`. -/
def sumTo (c : Dev nD) : (n : ℕ) → n < cfg0.N → Vec F S4x768 .f32
  | 0, h => k0_pay2 (blk A c 0 ⟨0, h⟩)
  | n + 1, h => k0_pay3 (blk A c 0 ⟨n + 1, h⟩) (sumTo c n (Nat.lt_of_succ_lt h))

/-- The first call's proof data: inputs stay at their blocks, the scores' buffer gets the chunk's scores, the sum's
buffer the running sum; nothing is owed. -/
def dat (c : Dev nD) : Dat τ (Elt F) Unit ℕ (Pipeline.UD sig nD τ) ℕ cfg0 c where
  A w := A c (Pipeline.arrRef spec0 w)
  after w t := match w with
    | ⟨0, _⟩ => blk A c 0 t
    | ⟨1, _⟩ => blk A c 1 t
    | ⟨2, _⟩ => k0_pay1 (blk A c 0 t) (blk A c 1 t)
    | ⟨3, _⟩ => sumTo A c t.val t.isLt
  Φ _ := Pipeline.scopedRest spec0 c
  q _ := fullShare
  owed _ := 0

theorem A_eq (c : Dev nD) (w : Fin cfg0.W) : (dat A c).A w = A c (Pipeline.arrRef spec0 w) := by dsimp only [dat]
theorem after_0 (c : Dev nD) (t : Fin cfg0.N) : (dat A c).after 0 t = blk A c 0 t := by dsimp only [dat]
theorem after_1 (c : Dev nD) (t : Fin cfg0.N) : (dat A c).after 1 t = blk A c 1 t := by dsimp only [dat]
theorem after_2 (c : Dev nD) (t : Fin cfg0.N) : (dat A c).after 2 t = k0_pay1 (blk A c 0 t) (blk A c 1 t) := by dsimp only [dat]
theorem after_3 (c : Dev nD) (t : Fin cfg0.N) : (dat A c).after 3 t = sumTo A c t.val t.isLt := by dsimp only [dat]

theorem before_0 (c : Dev nD) (t : Fin cfg0.N) (d) : (dat A c).before 0 t d = blk A c 0 t :=
  ((dat A c).before_in_eq_fetched 0 rfl (fun _ => rfl) (fun _ _ _ => rfl) (fun t => by rw [after_0]; unfold Dat.blockOf blk; rw [A_eq]) t d).trans
    (by unfold Dat.fetched Dat.blockOf blk; rw [A_eq]; try rfl)
theorem before_1 (c : Dev nD) (t : Fin cfg0.N) (d) : (dat A c).before 1 t d = blk A c 1 t :=
  ((dat A c).before_in_eq_fetched 1 rfl (fun _ => rfl) (fun _ _ _ => rfl) (fun t => by rw [after_1]; unfold Dat.blockOf blk; rw [A_eq]) t d).trans
    (by unfold Dat.fetched Dat.blockOf blk; rw [A_eq]; try rfl)

/-- The body stores into the sum's buffer at every point. -/
theorem live_3 : ∀ t : Fin cfg0.N, cfg0.idle 3 (cfg0.grid.coords t) = false :=
  (by decide +kernel : ∀ t : Fin grid0.N, cfg0.idle 3 (grid0.coords t) = false)

/-- The sum's buffer is written back at the last point only. -/
def freshTab : ℕ → Bool
  | 0 => true
  | n + 1 => decide (n = 7)
theorem fresh_step : ∀ t : Fin cfg0.N,
    freshTab (t.val + 1) = ((cfg0.win 3).flush t || (cfg0.idle 3 (cfg0.grid.coords t) && freshTab t.val)) := by decide +kernel
theorem fresh_eq (t : Fin cfg0.N) : cfg0.fresh 3 t.val = freshTab t.val :=
  Pipeline.Cfg.fresh_tab cfg0 3 freshTab rfl fresh_step t.val (Nat.le_of_lt t.isLt)
theorem not_fresh : ∀ t : Fin cfg0.N, t.val ≠ 0 → cfg0.fresh 3 t.val = false := by
  intro t; rw [fresh_eq t]; revert t; decide +kernel

/-- After the first point the sum's buffer holds what the point before left. -/
theorem before_3 (c : Dev nD) (t : Fin cfg0.N) (h : t.val ≠ 0) (d) :
    (dat A c).before 3 t d = sumTo A c (t.val - 1) (Nat.lt_of_le_of_lt (Nat.sub_le _ _) t.isLt) := by
  rw [Dat.before_out_traj _ 3 rfl (fun _ _ => rfl) (fun t _ hi _ => by rw [live_3 t] at hi; exact absurd hi Bool.false_ne_true) t.val t rfl d,
    if_neg (by rw [not_fresh t h]; exact Bool.false_ne_true)]
  dsimp only [dat]

/-! ## The body obligation -/

abbrev m0 (t : Fin cfg0.N) : Memref sig .tc .vmem S4x1024x768 .f32 := win0_0.stage (cfg0.slots t 0)
abbrev m1 (t : Fin cfg0.N) : Memref sig .tc .vmem S768x1 .f32 := win0_1.stage (cfg0.slots t 1)
abbrev m2 (t : Fin cfg0.N) : Memref sig .tc .vmem S4x1024 .f32 := win0_2.stage (cfg0.slots t 2)
abbrev m3 (t : Fin cfg0.N) : Memref sig .tc .vmem S4x768 .f32 := win0_3.stage (cfg0.slots t 3)

def bodyPre (c : Dev nD) (t : Fin cfg0.N) : sProp 𝕄 :=
  iprop((dat A c).Φ t.castSucc ∗ (dat A c).owesAt () t.castSucc
    ∗ (∃ d, owns (c : Thread nD τ) (m0 t) fullShare ((dat A c).before 0 t d))
    ∗ (∃ d, owns (c : Thread nD τ) (m1 t) fullShare ((dat A c).before 1 t d))
    ∗ (∃ d, owns (c : Thread nD τ) (m2 t) fullShare ((dat A c).before 2 t d))
    ∗ (∃ d, owns (c : Thread nD τ) (m3 t) fullShare ((dat A c).before 3 t d)))

def bodyPost (c : Dev nD) (t : Fin cfg0.N) : sProp 𝕄 :=
  iprop((dat A c).Φ t.succ ∗ (dat A c).owesAt () t.succ
    ∗ (dat A c).leavesExact 0 t ∗ (dat A c).leavesExact 1 t ∗ (dat A c).leavesExact 2 t ∗ (dat A c).leavesExact 3 t)

/-- What the body leaves, from its triple at the point. -/
theorem body_of (c : Dev nD) (t : Fin cfg0.N) (pre : sProp 𝕄)
    (hpre : iprop(∃ d, owns (c : Thread nD τ) (m3 t) fullShare ((dat A c).before 3 t d)) ⊢ pre)
    (h : Triple c (grid0.coords t) (m0 t) (hstage0_0 ((cfg0.slots t 0).cast nbuf0_0)) (m1 t) (hstage0_1 ((cfg0.slots t 1).cast nbuf0_1))
      (m2 t) (hstage0_2 ((cfg0.slots t 2).cast nbuf0_2)) (m3 t) (hstage0_3 ((cfg0.slots t 3).cast nbuf0_3)) (blk A c 0 t) (blk A c 1 t) pre (sumTo A c t.val t.isLt)) :
    bodyPre A c t ⊢ wp frame (wpE (defs₀ (F := F)) Variants.none c none) Set.univ (bodyAt0 t) (fun _ => bodyPost A c t) := by
  unfold bodyPre bodyPost bodyAt0
  simp only [before_0, before_1]
  rw [show (dat A c).Φ t.succ = (dat A c).Φ t.castSucc from rfl,
    show (dat A c).owesAt () t.succ = (dat A c).owesAt () t.castSucc from rfl,
    show (dat A c).leavesExact 0 t = owns (c : Thread nD τ) (m0 t) fullShare (blk A c 0 t) from by rw [← after_0],
    show (dat A c).leavesExact 1 t = owns (c : Thread nD τ) (m1 t) fullShare (blk A c 1 t) from by rw [← after_1],
    show (dat A c).leavesExact 2 t = owns (c : Thread nD τ) (m2 t) fullShare (k0_pay1 (blk A c 0 t) (blk A c 1 t)) from by rw [← after_2],
    show (dat A c).leavesExact 3 t = owns (c : Thread nD τ) (m3 t) fullShare (sumTo A c t.val t.isLt) from by
      rw [← after_3]; unfold Dat.leavesExact; rw [live_3 t]]
  iintro ⟨HΦ, Ho, ⟨%d0, H0⟩, ⟨%d1, H1⟩, ⟨%d2, H2⟩, H3⟩
  iapply (h _)
  isplitl [H0]; · iexact H0
  isplitl [H1]; · iexact H1
  isplitl [H2]; · iexists _; iexact H2
  isplitl [H3]; · iapply hpre; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem sum_first (c : Dev nD) (t : Fin cfg0.N) (h : t.val = 0) : sumTo A c t.val t.isLt = k0_pay2 (blk A c 0 t) := by
  obtain ⟨n, hn⟩ := t; obtain rfl : n = 0 := h; rfl

theorem sum_later (c : Dev nD) (t : Fin cfg0.N) (h : t.val ≠ 0) :
    sumTo A c t.val t.isLt = k0_pay3 (blk A c 0 t) (sumTo A c (t.val - 1) (Nat.lt_of_le_of_lt (Nat.sub_le _ _) t.isLt)) := by
  obtain ⟨n, hn⟩ := t
  cases n with
  | zero => exact absurd rfl h
  | succ n => rfl

theorem sound_body (c : Dev nD) (t : Fin cfg0.N) :
    bodyPre A c t ⊢ wp frame (wpE (defs₀ (F := F)) Variants.none c none) Set.univ (bodyAt0 t) (fun _ => bodyPost A c t) := by
  by_cases h : t.val = 0
  · refine body_of A c t iprop(∃ d, owns (c : Thread nD τ) (m3 t) fullShare d) ?_ ?_
    · iintro ⟨%d, H⟩; iexists _; iexact H
    · rw [sum_first A c t h]
      exact run_first c _ _ _ _ _ _ _ _ _ ((start_iff t).mpr h) (fun h' => (goOn_iff t).mp h' h) _ _
  · refine body_of A c t (owns (c : Thread nD τ) (m3 t) fullShare (sumTo A c (t.val - 1) (Nat.lt_of_le_of_lt (Nat.sub_le _ _) t.isLt))) ?_ ?_
    · simp only [before_3 A c t h]; iintro ⟨%d, H⟩; iexact H
    · rw [sum_later A c t h]
      exact run_later c _ _ _ _ _ _ _ _ _ (fun h' => h ((start_iff t).mp h')) ((goOn_iff t).mpr h) _ _ _

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dat A c) (defs₀ (F := F)) Variants.none () Set.univ := fun t => by
  rw [bigSep_W0, bigSep_W0, defs₀_row]
  exact triple_restated (sound_body A c t) rfl .rfl fun _ => .rfl

end Cert.KernelIdeal.Pass

end
-- ==== Proof.Rounds.lean ====
module

public import proofs.«01_k».proof.Proof.Gen.KernelIdeal.Skeleton

/-! The vectors the second call computes from a whole block of scores before it copies any row: the
    lane-by-lane indices of the eight largest scores of a row, and the weights beside them, written as
    eight rounds of "take the largest, note where it first stands, strike it out". -/

@[expose] public section

noncomputable section

namespace Cert.KernelIdeal.Rounds8

open Cert.KernelIdeal Cert.KernelIdeal.Gen
open Idealize.ShloMosaic Idealize.ShloMosaic.TcCoe

variable {F : FTy → Type} [FloatOps F]

/-- Column numbers of the score block. -/
def cols : IVec S4x8192 32 := iota .tc S4x8192 32 [1] iota_S4x8192_d1_w32
/-- Lane numbers of the candidate vectors. -/
def lanes : IVec S4x128 32 := iota .tc S4x128 32 [1] iota_S4x128_d1_w32
/-- The score a struck-out entry is given. -/
def low : F .f32 := Scalar.ofBits .f32 0xC0000000#32

/-- The largest entry of each row. -/
def rowMax (cur : FVec F S4x8192 .f32) : FVec F S4x1 .f32 :=
  shapeCast S4x1 (multiReduction .maximumf [1] S4 cur 0xFF800000#32 reduces_S4x8192_S4 (.inl rfl) rfl) shapeCasts_S4_S4x1

/-- The first column at which each row's largest entry stands. -/
def rowArg (cur : FVec F S4x8192 .f32) : IVec S4x1 32 :=
  shapeCast S4x1 (multiReductionI .minsi [1] S4
    (select (cmpf .oeq cur (broadcastTo S4x8192 (rowMax cur) broadcasts_S4x1_S4x8192)) cols (broadcast S4x8192 8192#32))
    2147483647#32 reduces_S4x8192_S4 rfl) shapeCasts_S4_S4x1

/-- The scores with the entry of each row's largest struck out. -/
def strike (cur : FVec F S4x8192 .f32) : FVec F S4x8192 .f32 :=
  select (cmpi .eq cols (broadcastTo S4x8192 (rowArg cur) broadcasts_S4x1_S4x8192)) (broadcast S4x8192 low) cur

/-- The scores after `n` rounds. -/
def after (v0 : Vec F S4x8192 .f32) : ℕ → FVec F S4x8192 .f32
  | 0 => shapeCast S4x8192 v0 shapeCasts_S4x8192_S4x8192
  | n + 1 => strike (after v0 n)

/-- The values found by the first `n` rounds, round `k`'s in lane `k`. -/
def valLanes (v0 : Vec F S4x8192 .f32) : ℕ → FVec F S4x128 .f32
  | 0 => broadcast S4x128 low
  | n + 1 => select (cmpi .eq lanes (broadcast S4x128 (BitVec.ofNat 32 n)))
      (broadcastTo S4x128 (shapeCast S4x1 (rowMax (after v0 n)) shapeCasts_S4x1_S4x1) broadcasts_S4x1_S4x128) (valLanes v0 n)

/-- The columns found by the first `n` rounds, round `k`'s in lane `k`. -/
def idxLanes (v0 : Vec F S4x8192 .f32) : ℕ → IVec S4x128 32
  | 0 => broadcast S4x128 0#32
  | n + 1 => select (cmpi .eq lanes (broadcast S4x128 (BitVec.ofNat 32 n)))
      (broadcastTo S4x128 (shapeCast S4x1 (rowArg (after v0 n)) shapeCasts_S4x1_S4x1) broadcasts_S4x1_S4x128) (idxLanes v0 n)

/-- The stored columns. -/
def idxAll (v0 : Vec F S4x8192 .f32) : IVec S4x128 32 :=
  k1_pay37 (k1_pay35 cols lanes
    (k1_pay27 cols lanes (k1_pay14 cols (k1_pay5 v0) (k1_pay7 v0))
      (k1_pay18 cols lanes (k1_pay4 v0) (k1_pay5 v0) (k1_pay7 v0) k1_pay9 (k1_pay10 v0))
      (k1_pay19 cols (k1_pay5 v0) (k1_pay7 v0)) low)
    (k1_pay28 cols (k1_pay14 cols (k1_pay5 v0) (k1_pay7 v0)) (k1_pay19 cols (k1_pay5 v0) (k1_pay7 v0)) low)
    (k1_pay29 cols (k1_pay14 cols (k1_pay5 v0) (k1_pay7 v0)) (k1_pay19 cols (k1_pay5 v0) (k1_pay7 v0)) low))

/-- The stored weights, the normaliser in lane 8. -/
def wAll (v0 : Vec F S4x8192 .f32) : FVec F S4x128 .f32 :=
  k1_pay38 lanes
    (k1_pay34 cols lanes
      (k1_pay26 cols lanes (k1_pay14 cols (k1_pay5 v0) (k1_pay7 v0)) (k1_pay17 cols lanes (k1_pay5 v0) (k1_pay7 v0) (k1_pay8 v0))
        (k1_pay19 cols (k1_pay5 v0) (k1_pay7 v0)) low)
      (k1_pay28 cols (k1_pay14 cols (k1_pay5 v0) (k1_pay7 v0)) (k1_pay19 cols (k1_pay5 v0) (k1_pay7 v0)) low)
      (k1_pay29 cols (k1_pay14 cols (k1_pay5 v0) (k1_pay7 v0)) (k1_pay19 cols (k1_pay5 v0) (k1_pay7 v0)) low))
    (k1_pay36 cols lanes
      (k1_pay26 cols lanes (k1_pay14 cols (k1_pay5 v0) (k1_pay7 v0)) (k1_pay17 cols lanes (k1_pay5 v0) (k1_pay7 v0) (k1_pay8 v0))
        (k1_pay19 cols (k1_pay5 v0) (k1_pay7 v0)) low)
      (k1_pay28 cols (k1_pay14 cols (k1_pay5 v0) (k1_pay7 v0)) (k1_pay19 cols (k1_pay5 v0) (k1_pay7 v0)) low)
      (k1_pay29 cols (k1_pay14 cols (k1_pay5 v0) (k1_pay7 v0)) (k1_pay19 cols (k1_pay5 v0) (k1_pay7 v0)) low))

/-- The scores the second half of the rounds starts from are those after round six. -/
theorem after4_eq (v0 : Vec F S4x8192 .f32) :
    k1_pay20 (k1_pay14 cols (k1_pay5 v0) (k1_pay7 v0)) (k1_pay19 cols (k1_pay5 v0) (k1_pay7 v0)) low = after v0 4 := rfl

theorem after6_eq (v0 : Vec F S4x8192 .f32) :
    k1_pay28 cols (k1_pay14 cols (k1_pay5 v0) (k1_pay7 v0)) (k1_pay19 cols (k1_pay5 v0) (k1_pay7 v0)) low = after v0 6 := rfl

theorem max6_eq (v0 : Vec F S4x8192 .f32) :
    k1_pay29 cols (k1_pay14 cols (k1_pay5 v0) (k1_pay7 v0)) (k1_pay19 cols (k1_pay5 v0) (k1_pay7 v0)) low
      = multiReduction .maximumf [1] S4 (after v0 6) 0xFF800000#32 reduces_S4x8192_S4 (.inl rfl) rfl := rfl

theorem idxAll_eq (v0 : Vec F S4x8192 .f32) : idxAll v0 = shapeCast S4x128 (idxLanes v0 8) shapeCasts_S4x128_S4x128 := rfl

theorem valAll_eq (v0 : Vec F S4x8192 .f32) :
    k1_pay34 cols lanes
      (k1_pay26 cols lanes (k1_pay14 cols (k1_pay5 v0) (k1_pay7 v0)) (k1_pay17 cols lanes (k1_pay5 v0) (k1_pay7 v0) (k1_pay8 v0))
        (k1_pay19 cols (k1_pay5 v0) (k1_pay7 v0)) low)
      (k1_pay28 cols (k1_pay14 cols (k1_pay5 v0) (k1_pay7 v0)) (k1_pay19 cols (k1_pay5 v0) (k1_pay7 v0)) low)
      (k1_pay29 cols (k1_pay14 cols (k1_pay5 v0) (k1_pay7 v0)) (k1_pay19 cols (k1_pay5 v0) (k1_pay7 v0)) low) = valLanes v0 8 := rfl

end Cert.KernelIdeal.Rounds8
-- ==== Proof.Tail.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Rounds
public import Idealize.ShloMosaic.Lib.Pipeline.FrameBody
public import Idealize.ShloMosaic.Lib.Batch
public import Idealize.ShloMosaic.Lib.Ring
public import Idealize.ShloMosaic.Lib.Pipeline.Value
public import Idealize.ShloMosaic.Lib.Tactic

@[expose] public section

noncomputable section

namespace Cert.KernelIdeal.Tail

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Rounds8
open Idealize.ShloMosaic.Pipeline (Dat Cfg Window BodyObligation cellOf)

variable {F : FTy → Type} [FloatOps F]

local notation "𝕄" => MT nD τ sig Unit (Elt F) ℕ (Pipeline.UD sig nD τ) ℕ

abbrev xM : Memref sig .tc .hbm S4x8192x768 .f32 := Memref.whole main_arg0
abbrev iM : Memref sig .tc .vmem S4x128 .i32 := Memref.whole cc1_scratch0
abbrev wM : Memref sig .tc .vmem S4x128 .f32 := Memref.whole cc1_scratch1
abbrev rM : Memref sig .tc .vmem S32x768 .f32 := Memref.whole cc1_scratch2
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- Read share `i` of the input array. -/
abbrev tk (c : Dev nD) (x : Bf (F := F) c xM) (i : Fin 32) : sProp 𝕄 :=
  xM.view.loc (c : Thread nD τ) ↦{Transfers.shareTok fullShare 32 i} x

/-- The input array held whole is a remainder beside one read share per copy. -/
theorem toks32 (c : Dev nD) (x : Bf (F := F) c xM) :
    (pt c xM x : sProp 𝕄) ⊣⊢ iprop((xM.view.loc (c : Thread nD τ) ↦{Transfers.shareDrop fullShare 32} x) ∗ tk c x 0 ∗ tk c x 1 ∗ tk c x 2 ∗ tk c x 3 ∗ tk c x 4 ∗ tk c x 5 ∗ tk c x 6 ∗ tk c x 7 ∗ tk c x 8 ∗ tk c x 9 ∗ tk c x 10 ∗ tk c x 11 ∗ tk c x 12 ∗ tk c x 13 ∗ tk c x 14 ∗ tk c x 15 ∗ tk c x 16 ∗ tk c x 17 ∗ tk c x 18 ∗ tk c x 19 ∗ tk c x 20 ∗ tk c x 21 ∗ tk c x 22 ∗ tk c x 23 ∗ tk c x 24 ∗ tk c x 25 ∗ tk c x 26 ∗ tk c x 27 ∗ tk c x 28 ∗ tk c x 29 ∗ tk c x 30 ∗ tk c x 31) := by
  have h := Transfers.pointsTo_toks (ℓ := xM.view.loc (c : Thread nD τ)) (S := Finset.univ) (f := x) (Ix := Unit) (Name := ℕ) (U := Pipeline.UD sig nD τ) (Lvl := ℕ) fullShare 32
  rw [bigSep_univ_eq_bigSepL (List.finRange 32) (by decide) (by decide)] at h
  exact h

/-- A one-row window of the input array lies inside it when its row number does. -/
theorem chk_of {b : Nat} (hb : b < 4) {v : BitVec 32} (hv : v.toNat < 8192) :
    ∀ a : Fin 3, (![b, v.toNat, 0] : Fin 3 → Nat) a + S1x1x768.size a ≤ S4x8192x768.size a := by
  intro a
  fin_cases a
  · show b + 1 ≤ 4; omega
  · show v.toNat + 1 ≤ 8192; omega
  · show 0 + 768 ≤ 768; omega

theorem z2 : (![0, 0] : Fin 2 → Nat) = fun _ => 0 := by funext a; fin_cases a <;> rfl

/-- The same when the row number is a word loaded from the stored columns. -/
theorem chk_load {b : Nat} (hb : b < 4) {I : IVec S4x128 32} (hI : ∀ j, (I j).toNat < 8192) {off : Fin 2 → Nat}
    {inb : ∀ a, off a + S1x1.size a ≤ S4x128.size a} {inb0 : ∀ a, (![0, 0] : Fin 2 → Nat) a + S4x128.size a ≤ S4x128.size a} :
    ∀ a : Fin 3, (![b, (extractAt (s := S1x1) ![0, 0] (iM.view.readCov (Val := Elt F) [⟨Rect.unit ![0, 0] S4x128.size inb0, I⟩]
        (Rect.unit (s := S4x128) off S1x1.size inb).toLoadRect) inpos_S1x1_p0_0 : BitVec 32).toNat, 0] : Fin 3 → Nat) a + S1x1x768.size a ≤ S4x8192x768.size a := by
  refine chk_of hb ?_
  rw [View.readCov_eq_canon_ld _ _ _ (fun y => ⟨_, List.mem_singleton_self _, View.mem_set_unit_zero z2 inb0 y⟩),
    View.canon_unit_zero z2]
  exact hI _

/-- The scores as the body loads them. -/
abbrev scores (arg0 : Memref sig .tc .vmem S4x8192 .f32) (harg0 : arg0.IsWhole) (e : Vec F S4x8192 .f32) : Vec F S4x8192 .f32 :=
  arg0.view.readAt (Elt F) (Rect.unit ![0, 0] S4x8192.size inb_S4x8192_S4x8192_0_0).toLoadRect (harg0.unread e)

set_option maxHeartbeats 16000000 in
set_option sl_exec.rejoinFuel 64 in
set_option sl_exec.stepHeartbeats 600000 in
noncomputable def tailRun (c : Dev nD) (arg0 : Memref sig .tc .vmem S4x8192 .f32) (harg0 : arg0.IsWhole)
    (arg1 : Memref sig .tc .vmem S4x768 .f32) (harg1 : arg1.IsWhole)
    (arg3 : Memref sig .tc .vmem S4x768 .f32) (harg3 : arg3.IsWhole)
    (e : Vec F S4x8192 .f32) (s : Vec F S4x768 .f32) (x : Bf (F := F) c xM) (hI : ∀ j, (idxAll (scores arg0 harg0 e) j).toNat < 8192) :
    { L1 : List (View.Piece (Elt F) S4x768 .f32) //
      ∀ (_plan : Transfers.BatchOf (c : Thread nD τ) (SemLoc.dma (sig := sig) 9) 32 (windows := true)) (W : Waits sig Unit) (K : PUnit → sProp 𝕄) (f4 : Bf (F := F) c iM) (f5 : Bf (F := F) c wM) (f6 : Bf (F := F) c rM),
        iprop(owns (c : Thread nD τ) arg0 fullShare e ∗ owns (c : Thread nD τ) arg1 fullShare s
            ∗ (∃ d, owns (c : Thread nD τ) arg3 fullShare d)
            ∗ pt c xM x ∗ pt c iM f4 ∗ pt c wM f5 ∗ pt c rM f6
            ∗ semVal ((c : Thread nD τ), SemLoc.dma 9) 0
            ∗ owes (c : Thread nD τ) 0 W
            ∗ (iprop(owns (c : Thread nD τ) arg0 fullShare e ∗ owns (c : Thread nD τ) arg1 fullShare s
                ∗ (∃ f, arg3.view.loc (c : Thread nD τ) ↦[arg3.view.set]{fullShare} arg3.view.writes (Elt F) f L1)
                ∗ pt c xM x ∗ (∃ f, pt c iM f) ∗ (∃ f, pt c wM f) ∗ (∃ f, pt c rM f)
                ∗ semVal ((c : Thread nD τ), SemLoc.dma 9) 0
                ∗ (∃ W', owes (c : Thread nD τ) 0 W')) -∗ K ⟨⟩))
          ⊢ wp frame (wpE (defs₀ (F := F)) Variants.none c none) Set.univ
              (cc1__tail_body arg0 harg0 arg1 harg1 xM (Memref.isWhole_whole _) arg3 harg3 iM (Memref.isWhole_whole _) wM (Memref.isWhole_whole _) rM (Memref.isWhole_whole _) cc1_scratch3) K } := by
  refine ⟨?_, fun _plan W K f4 f5 f6 => ?run⟩
  case run =>
    unfold owns
    iintro ⟨⟨%f0, %hf0, H0⟩, ⟨%f1, %hf1, H1⟩, ⟨%d3, %f3, -, H3⟩, Hx, H4, H5, H6, Hq, HW, Hk⟩
    obtain rfl := harg0.eq_unread hf0
    obtain rfl := harg1.eq_unread hf1
    ihave Hx' := (toks32 c x).1 $$ Hx
    icases Hx' with ⟨Hxd, X0, X1, X2, X3, X4, X5, X6, X7, X8, X9, X10, X11, X12, X13, X14, X15, X16, X17, X18, X19, X20, X21, X22, X23, X24, X25, X26, X27, X28, X29, X30, X31⟩
    ihave Hxd := (park _) $$ Hxd
    sl_unfold [cc1__tail_body]
    ihave X1 := (park _) $$ X1
    ihave X2 := (park _) $$ X2
    ihave X3 := (park _) $$ X3
    ihave X4 := (park _) $$ X4
    ihave X5 := (park _) $$ X5
    ihave X6 := (park _) $$ X6
    ihave X7 := (park _) $$ X7
    ihave X8 := (park _) $$ X8
    ihave X9 := (park _) $$ X9
    ihave X10 := (park _) $$ X10
    ihave X11 := (park _) $$ X11
    ihave X12 := (park _) $$ X12
    ihave X13 := (park _) $$ X13
    ihave X14 := (park _) $$ X14
    ihave X15 := (park _) $$ X15
    ihave X16 := (park _) $$ X16
    ihave X17 := (park _) $$ X17
    ihave X18 := (park _) $$ X18
    ihave X19 := (park _) $$ X19
    ihave X20 := (park _) $$ X20
    ihave X21 := (park _) $$ X21
    ihave X22 := (park _) $$ X22
    ihave X23 := (park _) $$ X23
    ihave X24 := (park _) $$ X24
    ihave X25 := (park _) $$ X25
    ihave X26 := (park _) $$ X26
    ihave X27 := (park _) $$ X27
    ihave X28 := (park _) $$ X28
    ihave X29 := (park _) $$ X29
    ihave X30 := (park _) $$ X30
    ihave X31 := (park _) $$ X31
    sl_exec (disch := exact (chk_load (F := F) (I := idxAll (scores arg0 harg0 e)) (by decide) hI : k1_chk1 _))
    ihave X0 := (park _) $$ X0
    ihave X0_kept := (park _) $$ X0_kept
    ihave X1 := (unpark _) $$ X1
    sl_exec (disch := exact (chk_load (F := F) (I := idxAll (scores arg0 harg0 e)) (by decide) hI : k1_chk2 _))
    ihave X1 := (park _) $$ X1
    ihave X1_kept := (park _) $$ X1_kept
    ihave X2 := (unpark _) $$ X2
    sl_exec (disch := exact (chk_load (F := F) (I := idxAll (scores arg0 harg0 e)) (by decide) hI : k1_chk3 _))
    ihave X2 := (park _) $$ X2
    ihave X2_kept := (park _) $$ X2_kept
    ihave X3 := (unpark _) $$ X3
    sl_exec (disch := exact (chk_load (F := F) (I := idxAll (scores arg0 harg0 e)) (by decide) hI : k1_chk4 _))
    ihave X3 := (park _) $$ X3
    ihave X3_kept := (park _) $$ X3_kept
    ihave X4 := (unpark _) $$ X4
    sl_exec (disch := exact (chk_load (F := F) (I := idxAll (scores arg0 harg0 e)) (by decide) hI : k1_chk5 _))
    ihave X4 := (park _) $$ X4
    ihave X4_kept := (park _) $$ X4_kept
    ihave X5 := (unpark _) $$ X5
    sl_exec (disch := exact (chk_load (F := F) (I := idxAll (scores arg0 harg0 e)) (by decide) hI : k1_chk6 _))
    ihave X5 := (park _) $$ X5
    ihave X5_kept := (park _) $$ X5_kept
    ihave X6 := (unpark _) $$ X6
    sl_exec (disch := exact (chk_load (F := F) (I := idxAll (scores arg0 harg0 e)) (by decide) hI : k1_chk7 _))
    ihave X6 := (park _) $$ X6
    ihave X6_kept := (park _) $$ X6_kept
    ihave X7 := (unpark _) $$ X7
    sl_exec (disch := exact (chk_load (F := F) (I := idxAll (scores arg0 harg0 e)) (by decide) hI : k1_chk8 _))
    ihave X7 := (park _) $$ X7
    ihave X7_kept := (park _) $$ X7_kept
    ihave X8 := (unpark _) $$ X8
    sl_exec (disch := exact (chk_load (F := F) (I := idxAll (scores arg0 harg0 e)) (by decide) hI : k1_chk9 _))
    ihave X8 := (park _) $$ X8
    ihave X8_kept := (park _) $$ X8_kept
    ihave X9 := (unpark _) $$ X9
    sl_exec (disch := exact (chk_load (F := F) (I := idxAll (scores arg0 harg0 e)) (by decide) hI : k1_chk10 _))
    ihave X9 := (park _) $$ X9
    ihave X9_kept := (park _) $$ X9_kept
    ihave X10 := (unpark _) $$ X10
    sl_exec (disch := exact (chk_load (F := F) (I := idxAll (scores arg0 harg0 e)) (by decide) hI : k1_chk11 _))
    ihave X10 := (park _) $$ X10
    ihave X10_kept := (park _) $$ X10_kept
    ihave X11 := (unpark _) $$ X11
    sl_exec (disch := exact (chk_load (F := F) (I := idxAll (scores arg0 harg0 e)) (by decide) hI : k1_chk12 _))
    ihave X11 := (park _) $$ X11
    ihave X11_kept := (park _) $$ X11_kept
    ihave X12 := (unpark _) $$ X12
    sl_exec (disch := exact (chk_load (F := F) (I := idxAll (scores arg0 harg0 e)) (by decide) hI : k1_chk13 _))
    ihave X12 := (park _) $$ X12
    ihave X12_kept := (park _) $$ X12_kept
    ihave X13 := (unpark _) $$ X13
    sl_exec (disch := exact (chk_load (F := F) (I := idxAll (scores arg0 harg0 e)) (by decide) hI : k1_chk14 _))
    ihave X13 := (park _) $$ X13
    ihave X13_kept := (park _) $$ X13_kept
    ihave X14 := (unpark _) $$ X14
    sl_exec (disch := exact (chk_load (F := F) (I := idxAll (scores arg0 harg0 e)) (by decide) hI : k1_chk15 _))
    ihave X14 := (park _) $$ X14
    ihave X14_kept := (park _) $$ X14_kept
    ihave X15 := (unpark _) $$ X15
    sl_exec (disch := exact (chk_load (F := F) (I := idxAll (scores arg0 harg0 e)) (by decide) hI : k1_chk16 _))
    ihave X15 := (park _) $$ X15
    ihave X15_kept := (park _) $$ X15_kept
    ihave X16 := (unpark _) $$ X16
    sl_exec (disch := exact (chk_load (F := F) (I := idxAll (scores arg0 harg0 e)) (by decide) hI : k1_chk17 _))
    ihave X16 := (park _) $$ X16
    ihave X16_kept := (park _) $$ X16_kept
    ihave X17 := (unpark _) $$ X17
    sl_exec (disch := exact (chk_load (F := F) (I := idxAll (scores arg0 harg0 e)) (by decide) hI : k1_chk18 _))
    ihave X17 := (park _) $$ X17
    ihave X17_kept := (park _) $$ X17_kept
    ihave X18 := (unpark _) $$ X18
    sl_exec (disch := exact (chk_load (F := F) (I := idxAll (scores arg0 harg0 e)) (by decide) hI : k1_chk19 _))
    ihave X18 := (park _) $$ X18
    ihave X18_kept := (park _) $$ X18_kept
    ihave X19 := (unpark _) $$ X19
    sl_exec (disch := exact (chk_load (F := F) (I := idxAll (scores arg0 harg0 e)) (by decide) hI : k1_chk20 _))
    ihave X19 := (park _) $$ X19
    ihave X19_kept := (park _) $$ X19_kept
    ihave X20 := (unpark _) $$ X20
    sl_exec (disch := exact (chk_load (F := F) (I := idxAll (scores arg0 harg0 e)) (by decide) hI : k1_chk21 _))
    ihave X20 := (park _) $$ X20
    ihave X20_kept := (park _) $$ X20_kept
    ihave X21 := (unpark _) $$ X21
    sl_exec (disch := exact (chk_load (F := F) (I := idxAll (scores arg0 harg0 e)) (by decide) hI : k1_chk22 _))
    ihave X21 := (park _) $$ X21
    ihave X21_kept := (park _) $$ X21_kept
    ihave X22 := (unpark _) $$ X22
    sl_exec (disch := exact (chk_load (F := F) (I := idxAll (scores arg0 harg0 e)) (by decide) hI : k1_chk23 _))
    ihave X22 := (park _) $$ X22
    ihave X22_kept := (park _) $$ X22_kept
    ihave X23 := (unpark _) $$ X23
    sl_exec (disch := exact (chk_load (F := F) (I := idxAll (scores arg0 harg0 e)) (by decide) hI : k1_chk24 _))
    ihave X23 := (park _) $$ X23
    ihave X23_kept := (park _) $$ X23_kept
    ihave X24 := (unpark _) $$ X24
    sl_exec (disch := exact (chk_load (F := F) (I := idxAll (scores arg0 harg0 e)) (by decide) hI : k1_chk25 _))
    ihave X24 := (park _) $$ X24
    ihave X24_kept := (park _) $$ X24_kept
    ihave X25 := (unpark _) $$ X25
    sl_exec (disch := exact (chk_load (F := F) (I := idxAll (scores arg0 harg0 e)) (by decide) hI : k1_chk26 _))
    ihave X25 := (park _) $$ X25
    ihave X25_kept := (park _) $$ X25_kept
    ihave X26 := (unpark _) $$ X26
    sl_exec (disch := exact (chk_load (F := F) (I := idxAll (scores arg0 harg0 e)) (by decide) hI : k1_chk27 _))
    ihave X26 := (park _) $$ X26
    ihave X26_kept := (park _) $$ X26_kept
    ihave X27 := (unpark _) $$ X27
    sl_exec (disch := exact (chk_load (F := F) (I := idxAll (scores arg0 harg0 e)) (by decide) hI : k1_chk28 _))
    ihave X27 := (park _) $$ X27
    ihave X27_kept := (park _) $$ X27_kept
    ihave X28 := (unpark _) $$ X28
    sl_exec (disch := exact (chk_load (F := F) (I := idxAll (scores arg0 harg0 e)) (by decide) hI : k1_chk29 _))
    ihave X28 := (park _) $$ X28
    ihave X28_kept := (park _) $$ X28_kept
    ihave X29 := (unpark _) $$ X29
    sl_exec (disch := exact (chk_load (F := F) (I := idxAll (scores arg0 harg0 e)) (by decide) hI : k1_chk30 _))
    ihave X29 := (park _) $$ X29
    ihave X29_kept := (park _) $$ X29_kept
    ihave X30 := (unpark _) $$ X30
    sl_exec (disch := exact (chk_load (F := F) (I := idxAll (scores arg0 harg0 e)) (by decide) hI : k1_chk31 _))
    ihave X30 := (park _) $$ X30
    ihave X30_kept := (park _) $$ X30_kept
    ihave X31 := (unpark _) $$ X31
    sl_exec (disch := exact (chk_load (F := F) (I := idxAll (scores arg0 harg0 e)) (by decide) hI : k1_chk32 _))
    ihave X0 := (unpark _) $$ X0
    ihave X0_kept := (unpark _) $$ X0_kept
    ihave X1 := (unpark _) $$ X1
    ihave X1_kept := (unpark _) $$ X1_kept
    ihave X2 := (unpark _) $$ X2
    ihave X2_kept := (unpark _) $$ X2_kept
    ihave X3 := (unpark _) $$ X3
    ihave X3_kept := (unpark _) $$ X3_kept
    ihave X4 := (unpark _) $$ X4
    ihave X4_kept := (unpark _) $$ X4_kept
    ihave X5 := (unpark _) $$ X5
    ihave X5_kept := (unpark _) $$ X5_kept
    ihave X6 := (unpark _) $$ X6
    ihave X6_kept := (unpark _) $$ X6_kept
    ihave X7 := (unpark _) $$ X7
    ihave X7_kept := (unpark _) $$ X7_kept
    ihave X8 := (unpark _) $$ X8
    ihave X8_kept := (unpark _) $$ X8_kept
    ihave X9 := (unpark _) $$ X9
    ihave X9_kept := (unpark _) $$ X9_kept
    ihave X10 := (unpark _) $$ X10
    ihave X10_kept := (unpark _) $$ X10_kept
    ihave X11 := (unpark _) $$ X11
    ihave X11_kept := (unpark _) $$ X11_kept
    ihave X12 := (unpark _) $$ X12
    ihave X12_kept := (unpark _) $$ X12_kept
    ihave X13 := (unpark _) $$ X13
    ihave X13_kept := (unpark _) $$ X13_kept
    ihave X14 := (unpark _) $$ X14
    ihave X14_kept := (unpark _) $$ X14_kept
    ihave X15 := (unpark _) $$ X15
    ihave X15_kept := (unpark _) $$ X15_kept
    ihave X16 := (unpark _) $$ X16
    ihave X16_kept := (unpark _) $$ X16_kept
    ihave X17 := (unpark _) $$ X17
    ihave X17_kept := (unpark _) $$ X17_kept
    ihave X18 := (unpark _) $$ X18
    ihave X18_kept := (unpark _) $$ X18_kept
    ihave X19 := (unpark _) $$ X19
    ihave X19_kept := (unpark _) $$ X19_kept
    ihave X20 := (unpark _) $$ X20
    ihave X20_kept := (unpark _) $$ X20_kept
    ihave X21 := (unpark _) $$ X21
    ihave X21_kept := (unpark _) $$ X21_kept
    ihave X22 := (unpark _) $$ X22
    ihave X22_kept := (unpark _) $$ X22_kept
    ihave X23 := (unpark _) $$ X23
    ihave X23_kept := (unpark _) $$ X23_kept
    ihave X24 := (unpark _) $$ X24
    ihave X24_kept := (unpark _) $$ X24_kept
    ihave X25 := (unpark _) $$ X25
    ihave X25_kept := (unpark _) $$ X25_kept
    ihave X26 := (unpark _) $$ X26
    ihave X26_kept := (unpark _) $$ X26_kept
    ihave X27 := (unpark _) $$ X27
    ihave X27_kept := (unpark _) $$ X27_kept
    ihave X28 := (unpark _) $$ X28
    ihave X28_kept := (unpark _) $$ X28_kept
    ihave X29 := (unpark _) $$ X29
    ihave X29_kept := (unpark _) $$ X29_kept
    ihave X30 := (unpark _) $$ X30
    ihave X30_kept := (unpark _) $$ X30_kept
    sl_exec (disch := exact chk_load (F := F) (I := idxAll (scores arg0 harg0 e)) (by decide) hI)
    ihave Hxd := (unpark _) $$ Hxd
    ihave Hx := (toks32 c x).2 $$ [Hxd X0 X1 X2 X3 X4 X5 X6 X7 X8 X9 X10 X11 X12 X13 X14 X15 X16 X17 X18 X19 X20 X21 X22 X23 X24 X25 X26 X27 X28 X29 X30 X31]
    · iframe
    sl_step
    iapply Hk
    isplitl [H0]
    · iexists _; isplitr; · ipureintro; exact hf0
      iexact H0
    isplitl [H1]
    · iexists _; isplitr; · ipureintro; exact hf1
      iexact H1
    isplitl [H3]
    · iexists _; iexact H3
    isplitl [Hx]
    · iexact Hx
    isplitl [H4]
    · iexists _; iexact H4
    isplitl [H5]
    · iexists _; iexact H5
    isplitl [H6]
    · iexists _; iexact H6
    isplitl [Hq]
    · iexact Hq
    iexists _; iexact HW

end Cert.KernelIdeal.Tail
-- ==== Proof.TailValue.lean ====
module

public import proofs.«01_k».proof.Proof.Tail
public import Idealize.ShloMosaic.Lib.Pipeline.Value
public import Idealize.ShloMosaic.Lib.ValueIdxCore

/-! What the second call leaves in its result, row by row: the block sum of the row, plus the eight weighted
    rows of the input the stored columns name, over the stored normaliser. -/

@[expose] public section

noncomputable section

namespace Cert.KernelIdeal.Tail

open Cert.KernelIdeal Cert.KernelIdeal.Gen
open Idealize.ShloMosaic Idealize.ShloMosaic.TcCoe
open Cert.KernelIdeal.Rounds8
open Idealize.ShloMosaic.ValueIdx (ix2 ix3 eq_ix2)

variable {F : FTy → Type} [FloatOps F]

/-- The column a stored word names. -/
def pick (w : BitVec 32) : Fin 8192 := ⟨w.toNat % 8192, Nat.mod_lt _ (by norm_num)⟩

/-- Entry `j` of the input row that lane `k` of batch row `b` names. -/
def rowAt (X : Vec F S4x8192x768 .f32) (I : IVec S4x128 32) (b : Fin 4) (k : Fin 128) (j : Fin 768) : F .f32 :=
  X (ix3 b (pick (I (ix2 b k))) j)

/-- The copied rows as one block: block row `8 b + k` is the input row lane `k` of batch row `b` names. -/
def rowsBlock (X : Vec F S4x8192x768 .f32) (I : IVec S4x128 32) (y : S32x768.Idx) : F .f32 :=
  rowAt X I ⟨(y 0).val / 8, by have h : (y 0).val < 32 := (y 0).isLt; omega⟩
    ⟨(y 0).val % 8, by omega⟩ (y 1)

/-- One result row: the sum, the eight weighted rows added in turn, the quotient by the normaliser. -/
def rowComb (v : FVec F S1x768 .f32) (w0 w1 w2 w3 w4 w5 w6 w7 w8 : F .f32) (r0 r1 r2 r3 r4 r5 r6 r7 : FVec F S1x768 .f32) :
    FVec F S1x768 .f32 :=
  divf (addf (addf (addf (addf (addf (addf (addf (addf v (mulf (broadcast S1x768 w0) r0)) (mulf (broadcast S1x768 w1) r1))
    (mulf (broadcast S1x768 w2) r2)) (mulf (broadcast S1x768 w3) r3)) (mulf (broadcast S1x768 w4) r4))
    (mulf (broadcast S1x768 w5) r5)) (mulf (broadcast S1x768 w6) r6)) (mulf (broadcast S1x768 w7) r7)) (broadcast S1x768 w8)

/-- Result row `b` from the stored columns and weights. -/
def outRow (s : Vec F S4x768 .f32) (X : Vec F S4x8192x768 .f32) (I : IVec S4x128 32) (W : FVec F S4x128 .f32) (b : Fin 4) :
    FVec F S1x768 .f32 :=
  rowComb (fun z => s (ix2 b (z 1))) (W (ix2 b 0)) (W (ix2 b 1)) (W (ix2 b 2)) (W (ix2 b 3)) (W (ix2 b 4)) (W (ix2 b 5))
    (W (ix2 b 6)) (W (ix2 b 7)) (W (ix2 b 8)) (fun z => rowAt X I b 0 (z 1)) (fun z => rowAt X I b 1 (z 1))
    (fun z => rowAt X I b 2 (z 1)) (fun z => rowAt X I b 3 (z 1)) (fun z => rowAt X I b 4 (z 1)) (fun z => rowAt X I b 5 (z 1))
    (fun z => rowAt X I b 6 (z 1)) (fun z => rowAt X I b 7 (z 1))

/-- The result block. -/
def tailOut (e : Vec F S4x8192 .f32) (s : Vec F S4x768 .f32) (X : Vec F S4x8192x768 .f32) : Vec F S4x768 .f32 :=
  fun y => outRow s X (idxAll e) (wAll e) (y 0) (ix2 0 (y 1))

theorem rowComb_congr {v v' : FVec F S1x768 .f32} {w0 w1 w2 w3 w4 w5 w6 w7 w8 w0' w1' w2' w3' w4' w5' w6' w7' w8' : F .f32}
    {r0 r1 r2 r3 r4 r5 r6 r7 r0' r1' r2' r3' r4' r5' r6' r7' : FVec F S1x768 .f32}
    (hv : v = v') (h0 : w0 = w0') (k0 : r0 = r0') (h1 : w1 = w1') (k1 : r1 = r1') (h2 : w2 = w2') (k2 : r2 = r2')
    (h3 : w3 = w3') (k3 : r3 = r3') (h4 : w4 = w4') (k4 : r4 = r4') (h5 : w5 = w5') (k5 : r5 = r5') (h6 : w6 = w6') (k6 : r6 = r6')
    (h7 : w7 = w7') (k7 : r7 = r7') (h8 : w8 = w8') :
    rowComb v w0 w1 w2 w3 w4 w5 w6 w7 w8 r0 r1 r2 r3 r4 r5 r6 r7
      = rowComb v' w0' w1' w2' w3' w4' w5' w6' w7' w8' r0' r1' r2' r3' r4' r5' r6' r7' := by
  subst hv h0 h1 h2 h3 h4 h5 h6 h7 h8 k0 k1 k2 k3 k4 k5 k6 k7; rfl

/-- The place of a one-element window's element. -/
theorem emb_one {b k : Nat} (hb : b < 4) (hk : k < 128) (inb : ∀ a, (![b, k] : Fin 2 → Nat) a + S1x1.size a ≤ S4x128.size a)
    (z : S1x1.Idx) : (Rect.unit (s := S4x128) ![b, k] S1x1.size inb).emb z = ix2 ⟨b, hb⟩ ⟨k, hk⟩ := by
  have h0 : (z 0).val < 1 := (z 0).isLt
  have h1 : (z 1).val < 1 := (z 1).isLt
  funext a; apply Fin.ext; rw [Rect.emb_apply]
  match a with
  | ⟨0, _⟩ => show b + 1 * (z 0).val = b; omega
  | ⟨1, _⟩ => show k + 1 * (z 1).val = k; omega

/-- A word of the stored block, loaded and extracted. -/
theorem load_one {sig' : RefSig} {κ : Kind} {sp : Space} {el : EltTy} {Val : EltTy → Type} [∀ e, Nonempty (Val e)]
    (v : View sig' κ sp S4x128 el) (I : S4x128.Idx → Val el) {b k : Nat} (hb : b < 4) (hk : k < 128)
    {inb : ∀ a, (![b, k] : Fin 2 → Nat) a + S1x1.size a ≤ S4x128.size a}
    {inb0 : ∀ a, (![0, 0] : Fin 2 → Nat) a + S4x128.size a ≤ S4x128.size a} {hp} :
    extractAt (s := S1x1) ![0, 0] (v.readCov [⟨Rect.unit ![0, 0] S4x128.size inb0, I⟩]
      (Rect.unit (s := S4x128) ![b, k] S1x1.size inb).toLoadRect) hp = I (ix2 ⟨b, hb⟩ ⟨k, hk⟩) := by
  rw [View.readCov_eq_canon_ld _ _ _ (fun y => ⟨_, List.mem_singleton_self _, View.mem_set_unit_zero z2 inb0 y⟩),
    View.canon_unit_zero z2]
  show I ((Rect.unit (s := S4x128) ![b, k] S1x1.size inb).emb _) = _
  rw [emb_one hb hk]

/-- The place of a row window's element in the copied rows' block. -/
theorem emb_row {n r : Nat} (hr : r < n) (inb : ∀ a, (![r, 0] : Fin 2 → Nat) a + S1x768.size a ≤ (⟨2, ![n, 768]⟩ : Shape).size a)
    (z : S1x768.Idx) : (Rect.unit (s := ⟨2, ![n, 768]⟩) ![r, 0] S1x768.size inb).emb z = ix2 ⟨r, hr⟩ (z 1) := by
  have h0 : (z 0).val < 1 := (z 0).isLt
  funext a; apply Fin.ext; rw [Rect.emb_apply]
  match a with
  | ⟨0, _⟩ => show r + 1 * (z 0).val = r; omega
  | ⟨1, _⟩ => show 0 + 1 * (z 1).val = (z 1).val; omega

/-- What one copy delivers. -/
theorem copied {c : Dev nD} (x : Bf (F := F) c xM) {b n : Nat} (hb : b < 4) (hn : n < 8192)
    {inb : ∀ a, (![b, n, 0] : Fin 3 → Nat) a + S1x1x768.size a ≤ S4x8192x768.size a} {hr} {hq : S1x1x768.Squeezes S1x768}
    (z : S1x768.Idx) :
    View.read (Elt F) ((xM.slice (Rect.unit (s := S4x8192x768) ![b, n, 0] S1x1x768.size inb) hr).squeeze S1x768 hq).view x z
      = xM.view.read (Elt F) x (ix3 ⟨b, hb⟩ ⟨n, hn⟩ (z 1)) := by
  have h1 : View.read (Elt F) ((xM.slice (Rect.unit (s := S4x8192x768) ![b, n, 0] S1x1x768.size inb) hr).squeeze S1x768 hq).view x z
      = xM.view.read (Elt F) x ((Rect.unit (s := S4x8192x768) ![b, n, 0] S1x1x768.size inb).emb (Shape.reshapeEquiv hq.numel_eq z)) := rfl
  have h0 : (z 0).val < 1 := (z 0).isLt
  rw [h1, Shape.reshapeEquiv_cons_one]
  congr 1
  funext a; apply Fin.ext; rw [Rect.emb_apply]
  match a with
  | ⟨0, _⟩ => show b + 1 * 0 = b; omega
  | ⟨1, _⟩ => show n + 1 * (z 0).val = n; omega
  | ⟨2, _⟩ => show 0 + 1 * (z 1).val = (z 1).val; omega

/-- A copied row agrees with the block of copied rows. -/
theorem piece_ok {c : Dev nD} (x : Bf (F := F) c xM) {I : IVec S4x128 32} (hI : ∀ j, (I j).toNat < 8192) {b k r : Nat}
    (hb : b < 4) (hk : k < 8) (hr8 : r = 8 * b + k)
    {inbw : ∀ a, (![b, k] : Fin 2 → Nat) a + S1x1.size a ≤ S4x128.size a}
    {inb0 : ∀ a, (![0, 0] : Fin 2 → Nat) a + S4x128.size a ≤ S4x128.size a}
    {inbr : ∀ a, (![r, 0] : Fin 2 → Nat) a + S1x768.size a ≤ S32x768.size a} {hp} {inb} {hr} {hq : S1x1x768.Squeezes S1x768}
    (z : S1x768.Idx) :
    View.read (Elt F) ((xM.slice (Rect.unit (s := S4x8192x768) ![b, (extractAt (s := S1x1) ![0, 0]
        (iM.view.readCov (Val := Elt F) [⟨Rect.unit ![0, 0] S4x128.size inb0, I⟩]
        (Rect.unit (s := S4x128) ![b, k] S1x1.size inbw).toLoadRect) hp : BitVec 32).toNat, 0] S1x1x768.size inb) hr).squeeze S1x768 hq).view x z
      = rowsBlock (xM.view.read (Elt F) x) I ((Rect.unit (s := S32x768) ![r, 0] S1x768.size inbr).emb z) := by
  have hw := load_one (Val := Elt F) iM.view I hb (by omega : k < 128) (inb := inbw) (inb0 := inb0) (hp := hp)
  have hlt : (extractAt (s := S1x1) ![0, 0] (iM.view.readCov (Val := Elt F) [⟨Rect.unit ![0, 0] S4x128.size inb0, I⟩]
        (Rect.unit (s := S4x128) ![b, k] S1x1.size inbw).toLoadRect) hp : BitVec 32).toNat < 8192 := by
    rw [hw]; exact hI _
  rw [copied x hb hlt z, emb_row (n := 32) (by omega : r < 32)]
  unfold rowsBlock rowAt pick
  have e1 : (⟨r / 8, by omega⟩ : Fin 4) = ⟨b, hb⟩ := Fin.ext (by show r / 8 = b; omega)
  have e2 : (⟨r % 8, by omega⟩ : Fin 128) = ⟨k, by omega⟩ := Fin.ext (by show r % 8 = k; omega)
  show _ = xM.view.read (Elt F) x (ix3 ⟨r / 8, _⟩ ⟨(I (ix2 ⟨r / 8, _⟩ ⟨r % 8, _⟩)).toNat % 8192, _⟩ (z 1))
  congr 2
  · exact e1.symm
  · apply Fin.ext
    show _ = (I (ix2 ⟨r / 8, _⟩ ⟨r % 8, _⟩)).toNat % 8192
    rw [Nat.mod_eq_of_lt (hI _)]
    show (extractAt (s := S1x1) ![0, 0] (iM.view.readCov (Val := Elt F) [⟨Rect.unit ![0, 0] S4x128.size inb0, I⟩]
        (Rect.unit (s := S4x128) ![b, k] S1x1.size inbw).toLoadRect) hp : BitVec 32).toNat = _
    rw [hw]
    congr 2
    rw [e1, e2]

/-- A row loaded back from the copied rows. -/
theorem row_load (X : Vec F S4x8192x768 .f32) (I : IVec S4x128 32) {L : List (View.Piece (Elt F) S32x768 .f32)}
    (hL : ∀ p ∈ L, ∀ z : p.1.shape.Idx, p.2 z = rowsBlock X I (p.1.emb z)) {b k r : Nat} (hb : b < 4) (hk : k < 8) (hr8 : r = 8 * b + k)
    {inbr : ∀ a, (![r, 0] : Fin 2 → Nat) a + S1x768.size a ≤ S32x768.size a}
    (hcov : ∃ P : S1x768.Idx → Elt F .f32, (⟨Rect.unit (s := S32x768) ![r, 0] S1x768.size inbr, P⟩ : View.Piece (Elt F) S32x768 .f32) ∈ L) :
    rM.view.readCov L (Rect.unit (s := S32x768) ![r, 0] S1x768.size inbr).toLoadRect
      = fun z : S1x768.Idx => rowAt X I ⟨b, hb⟩ ⟨k, by omega⟩ (z 1) := by
  obtain ⟨P, hP⟩ := hcov
  rw [View.readCov_eq_canon']
  funext z
  refine (View.canon_apply_of_pieces (rowsBlock X I) L hL _ ⟨_, hP, LoadRect.idx_mem _ z⟩).trans ?_
  refine (congrArg (rowsBlock X I) (emb_row (n := 32) (by omega : r < 32) inbr z)).trans ?_
  have e1 : (⟨r / 8, by omega⟩ : Fin 4) = ⟨b, hb⟩ := Fin.ext (by show r / 8 = b; omega)
  have e2 : (⟨r % 8, by omega⟩ : Fin 128) = ⟨k, by omega⟩ := Fin.ext (by show r % 8 = k; omega)
  show rowAt X I ⟨r / 8, _⟩ ⟨r % 8, _⟩ (z 1) = _
  rw [e1, e2]

/-- A row of the block sums, loaded. -/
theorem sum_load {arg1 : Memref sig .tc .vmem S4x768 .f32} (harg1 : arg1.IsWhole) (s : Vec F S4x768 .f32) {b : Nat} (hb : b < 4)
    {inb : ∀ a, (![b, 0] : Fin 2 → Nat) a + S1x768.size a ≤ S4x768.size a} {hc : S1x768.ShapeCasts S1x768} :
    shapeCast S1x768 (View.readAt (Elt F) arg1.view (Rect.unit (s := S4x768) ![b, 0] S1x768.size inb).toLoadRect (harg1.unread s)) hc
      = fun z : S1x768.Idx => s (ix2 ⟨b, hb⟩ (z 1)) := by
  funext z
  rw [shapeCast_apply _ _ z z rfl]
  show View.read (Elt F) arg1.view (harg1.unread s) ((Rect.unit (s := S4x768) ![b, 0] S1x768.size inb).emb z) = _
  rw [harg1.read_unread, emb_row (n := 4) hb]
  rfl

theorem scores_eq (arg0 : Memref sig .tc .vmem S4x8192 .f32) (harg0 : arg0.IsWhole) (e : Vec F S4x8192 .f32) :
    scores arg0 harg0 e = e := by
  have h : scores arg0 harg0 e
      = View.ld (arg0.view.read (Elt F) (harg0.unread e)) (Rect.unit (s := S4x8192) ![0, 0] S4x8192.size inb_S4x8192_S4x8192_0_0) := rfl
  rw [h, harg0.read_unread]
  exact View.ld_unit_zero (S := S4x8192) z2 inb_S4x8192_S4x8192_0_0 e

variable (c : Dev nD) (arg0 : Memref sig .tc .vmem S4x8192 .f32) (harg0 : arg0.IsWhole) (arg1 : Memref sig .tc .vmem S4x768 .f32)
  (harg1 : arg1.IsWhole) (arg3 : Memref sig .tc .vmem S4x768 .f32) (harg3 : arg3.IsWhole) (e : Vec F S4x8192 .f32)
  (s : Vec F S4x768 .f32) (x : Bf (F := F) c xM) (hI : ∀ j, (idxAll (scores arg0 harg0 e) j).toNat < 8192)

/-- The thirty-two copies, the last first. -/
def copies : List (View.Piece (Elt F) S32x768 .f32) :=
  [⟨Rect.unit (s := S32x768) ![31, 0] S1x768.size inb_S32x768_S1x768_31_0, tailRun.sl.dma0_30 c arg0 harg0 e x hI⟩,
   ⟨Rect.unit (s := S32x768) ![30, 0] S1x768.size inb_S32x768_S1x768_30_0, tailRun.sl.dma0_29 c arg0 harg0 e x hI⟩,
   ⟨Rect.unit (s := S32x768) ![29, 0] S1x768.size inb_S32x768_S1x768_29_0, tailRun.sl.dma0_28 c arg0 harg0 e x hI⟩,
   ⟨Rect.unit (s := S32x768) ![28, 0] S1x768.size inb_S32x768_S1x768_28_0, tailRun.sl.dma0_27 c arg0 harg0 e x hI⟩,
   ⟨Rect.unit (s := S32x768) ![27, 0] S1x768.size inb_S32x768_S1x768_27_0, tailRun.sl.dma0_26 c arg0 harg0 e x hI⟩,
   ⟨Rect.unit (s := S32x768) ![26, 0] S1x768.size inb_S32x768_S1x768_26_0, tailRun.sl.dma0_25 c arg0 harg0 e x hI⟩,
   ⟨Rect.unit (s := S32x768) ![25, 0] S1x768.size inb_S32x768_S1x768_25_0, tailRun.sl.dma0_24 c arg0 harg0 e x hI⟩,
   ⟨Rect.unit (s := S32x768) ![24, 0] S1x768.size inb_S32x768_S1x768_24_0, tailRun.sl.dma0_23 c arg0 harg0 e x hI⟩,
   ⟨Rect.unit (s := S32x768) ![23, 0] S1x768.size inb_S32x768_S1x768_23_0, tailRun.sl.dma0_22 c arg0 harg0 e x hI⟩,
   ⟨Rect.unit (s := S32x768) ![22, 0] S1x768.size inb_S32x768_S1x768_22_0, tailRun.sl.dma0_21 c arg0 harg0 e x hI⟩,
   ⟨Rect.unit (s := S32x768) ![21, 0] S1x768.size inb_S32x768_S1x768_21_0, tailRun.sl.dma0_20 c arg0 harg0 e x hI⟩,
   ⟨Rect.unit (s := S32x768) ![20, 0] S1x768.size inb_S32x768_S1x768_20_0, tailRun.sl.dma0_19 c arg0 harg0 e x hI⟩,
   ⟨Rect.unit (s := S32x768) ![19, 0] S1x768.size inb_S32x768_S1x768_19_0, tailRun.sl.dma0_18 c arg0 harg0 e x hI⟩,
   ⟨Rect.unit (s := S32x768) ![18, 0] S1x768.size inb_S32x768_S1x768_18_0, tailRun.sl.dma0_17 c arg0 harg0 e x hI⟩,
   ⟨Rect.unit (s := S32x768) ![17, 0] S1x768.size inb_S32x768_S1x768_17_0, tailRun.sl.dma0_16 c arg0 harg0 e x hI⟩,
   ⟨Rect.unit (s := S32x768) ![16, 0] S1x768.size inb_S32x768_S1x768_16_0, tailRun.sl.dma0_15 c arg0 harg0 e x hI⟩,
   ⟨Rect.unit (s := S32x768) ![15, 0] S1x768.size inb_S32x768_S1x768_15_0, tailRun.sl.dma0_14 c arg0 harg0 e x hI⟩,
   ⟨Rect.unit (s := S32x768) ![14, 0] S1x768.size inb_S32x768_S1x768_14_0, tailRun.sl.dma0_13 c arg0 harg0 e x hI⟩,
   ⟨Rect.unit (s := S32x768) ![13, 0] S1x768.size inb_S32x768_S1x768_13_0, tailRun.sl.dma0_12 c arg0 harg0 e x hI⟩,
   ⟨Rect.unit (s := S32x768) ![12, 0] S1x768.size inb_S32x768_S1x768_12_0, tailRun.sl.dma0_11 c arg0 harg0 e x hI⟩,
   ⟨Rect.unit (s := S32x768) ![11, 0] S1x768.size inb_S32x768_S1x768_11_0, tailRun.sl.dma0_10 c arg0 harg0 e x hI⟩,
   ⟨Rect.unit (s := S32x768) ![10, 0] S1x768.size inb_S32x768_S1x768_10_0, tailRun.sl.dma0_9 c arg0 harg0 e x hI⟩,
   ⟨Rect.unit (s := S32x768) ![9, 0] S1x768.size inb_S32x768_S1x768_9_0, tailRun.sl.dma0_8 c arg0 harg0 e x hI⟩,
   ⟨Rect.unit (s := S32x768) ![8, 0] S1x768.size inb_S32x768_S1x768_8_0, tailRun.sl.dma0_7 c arg0 harg0 e x hI⟩,
   ⟨Rect.unit (s := S32x768) ![7, 0] S1x768.size inb_S32x768_S1x768_7_0, tailRun.sl.dma0_6 c arg0 harg0 e x hI⟩,
   ⟨Rect.unit (s := S32x768) ![6, 0] S1x768.size inb_S32x768_S1x768_6_0, tailRun.sl.dma0_5 c arg0 harg0 e x hI⟩,
   ⟨Rect.unit (s := S32x768) ![5, 0] S1x768.size inb_S32x768_S1x768_5_0, tailRun.sl.dma0_4 c arg0 harg0 e x hI⟩,
   ⟨Rect.unit (s := S32x768) ![4, 0] S1x768.size inb_S32x768_S1x768_4_0, tailRun.sl.dma0_3 c arg0 harg0 e x hI⟩,
   ⟨Rect.unit (s := S32x768) ![3, 0] S1x768.size inb_S32x768_S1x768_3_0, tailRun.sl.dma0_2 c arg0 harg0 e x hI⟩,
   ⟨Rect.unit (s := S32x768) ![2, 0] S1x768.size inb_S32x768_S1x768_2_0, tailRun.sl.dma0_1 c arg0 harg0 e x hI⟩,
   ⟨Rect.unit (s := S32x768) ![1, 0] S1x768.size inb_S32x768_S1x768_1_0, tailRun.sl.dma0 c arg0 harg0 e x hI⟩,
   ⟨Rect.unit (s := S32x768) ![0, 0] S1x768.size inb_S32x768_S1x768_0_0, tailRun.sl.dma6 c arg0 harg0 e x hI⟩]

theorem copies_ok : ∀ p ∈ copies c arg0 harg0 e x hI, ∀ z : p.1.shape.Idx,
    p.2 z = rowsBlock (xM.view.read (Elt F) x) (idxAll (scores arg0 harg0 e)) (p.1.emb z) := by
  unfold copies
  simp only [List.forall_mem_cons]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun p hp => absurd hp List.not_mem_nil⟩ <;> intro z
  · exact piece_ok x hI (b := 3) (k := 7) (by decide) (by decide) (by decide) z
  · exact piece_ok x hI (b := 3) (k := 6) (by decide) (by decide) (by decide) z
  · exact piece_ok x hI (b := 3) (k := 5) (by decide) (by decide) (by decide) z
  · exact piece_ok x hI (b := 3) (k := 4) (by decide) (by decide) (by decide) z
  · exact piece_ok x hI (b := 3) (k := 3) (by decide) (by decide) (by decide) z
  · exact piece_ok x hI (b := 3) (k := 2) (by decide) (by decide) (by decide) z
  · exact piece_ok x hI (b := 3) (k := 1) (by decide) (by decide) (by decide) z
  · exact piece_ok x hI (b := 3) (k := 0) (by decide) (by decide) (by decide) z
  · exact piece_ok x hI (b := 2) (k := 7) (by decide) (by decide) (by decide) z
  · exact piece_ok x hI (b := 2) (k := 6) (by decide) (by decide) (by decide) z
  · exact piece_ok x hI (b := 2) (k := 5) (by decide) (by decide) (by decide) z
  · exact piece_ok x hI (b := 2) (k := 4) (by decide) (by decide) (by decide) z
  · exact piece_ok x hI (b := 2) (k := 3) (by decide) (by decide) (by decide) z
  · exact piece_ok x hI (b := 2) (k := 2) (by decide) (by decide) (by decide) z
  · exact piece_ok x hI (b := 2) (k := 1) (by decide) (by decide) (by decide) z
  · exact piece_ok x hI (b := 2) (k := 0) (by decide) (by decide) (by decide) z
  · exact piece_ok x hI (b := 1) (k := 7) (by decide) (by decide) (by decide) z
  · exact piece_ok x hI (b := 1) (k := 6) (by decide) (by decide) (by decide) z
  · exact piece_ok x hI (b := 1) (k := 5) (by decide) (by decide) (by decide) z
  · exact piece_ok x hI (b := 1) (k := 4) (by decide) (by decide) (by decide) z
  · exact piece_ok x hI (b := 1) (k := 3) (by decide) (by decide) (by decide) z
  · exact piece_ok x hI (b := 1) (k := 2) (by decide) (by decide) (by decide) z
  · exact piece_ok x hI (b := 1) (k := 1) (by decide) (by decide) (by decide) z
  · exact piece_ok x hI (b := 1) (k := 0) (by decide) (by decide) (by decide) z
  · exact piece_ok x hI (b := 0) (k := 7) (by decide) (by decide) (by decide) z
  · exact piece_ok x hI (b := 0) (k := 6) (by decide) (by decide) (by decide) z
  · exact piece_ok x hI (b := 0) (k := 5) (by decide) (by decide) (by decide) z
  · exact piece_ok x hI (b := 0) (k := 4) (by decide) (by decide) (by decide) z
  · exact piece_ok x hI (b := 0) (k := 3) (by decide) (by decide) (by decide) z
  · exact piece_ok x hI (b := 0) (k := 2) (by decide) (by decide) (by decide) z
  · exact piece_ok x hI (b := 0) (k := 1) (by decide) (by decide) (by decide) z
  · exact piece_ok x hI (b := 0) (k := 0) (by decide) (by decide) (by decide) z

theorem copy_mem {r : Nat} (hr : r < 32) {inbr : ∀ a, (![r, 0] : Fin 2 → Nat) a + S1x768.size a ≤ S32x768.size a} :
    ∃ P : S1x768.Idx → Elt F .f32, (⟨Rect.unit (s := S32x768) ![r, 0] S1x768.size inbr, P⟩ : View.Piece (Elt F) S32x768 .f32)
      ∈ copies c arg0 harg0 e x hI := by
  unfold copies
  interval_cases r <;> exact ⟨_, by repeat first | exact List.Mem.head _ | apply List.Mem.tail⟩

theorem row_val {b k r : Nat} (hb : b < 4) (hk : k < 8) (hr8 : r = 8 * b + k)
    {inbr : ∀ a, (![r, 0] : Fin 2 → Nat) a + S1x768.size a ≤ S32x768.size a} :
    rM.view.readCov (copies c arg0 harg0 e x hI) (Rect.unit (s := S32x768) ![r, 0] S1x768.size inbr).toLoadRect
      = fun z : S1x768.Idx => rowAt (xM.view.read (Elt F) x) (idxAll (scores arg0 harg0 e)) ⟨b, hb⟩ ⟨k, by omega⟩ (z 1) :=
  row_load _ _ (copies_ok c arg0 harg0 e x hI) hb hk hr8 (copy_mem c arg0 harg0 e x hI (by omega))

theorem weight_val {b k : Nat} (hb : b < 4) (hk : k < 128)
    {inb : ∀ a, (![b, k] : Fin 2 → Nat) a + S1x1.size a ≤ S4x128.size a}
    {inb0 : ∀ a, (![0, 0] : Fin 2 → Nat) a + S4x128.size a ≤ S4x128.size a} {hp} :
    extractAt (s := S1x1) ![0, 0] (wM.view.readCov (Val := Elt F) [⟨Rect.unit ![0, 0] S4x128.size inb0, wAll (scores arg0 harg0 e)⟩]
      (Rect.unit (s := S4x128) ![b, k] S1x1.size inb).toLoadRect) hp = wAll (scores arg0 harg0 e) (ix2 ⟨b, hb⟩ ⟨k, hk⟩) :=
  load_one (Val := Elt F) wM.view _ hb hk

theorem weights_eq : k1_pay38 tailRun.sl.v3 (tailRun.sl.r_13 c arg0 harg0 e) (tailRun.sl.r_15 c arg0 harg0 e) = wAll (scores arg0 harg0 e) := rfl

theorem row3_eq : tailRun.sl.r_25 c arg0 harg0 arg1 harg1 e s x hI
    = outRow s (xM.view.read (Elt F) x) (idxAll (scores arg0 harg0 e)) (wAll (scores arg0 harg0 e)) 3 := by
  have h : tailRun.sl.r_25 c arg0 harg0 arg1 harg1 e s x hI
      = rowComb (shapeCast S1x768 (View.readAt (Elt F) arg1.view (Rect.unit (s := S4x768) ![3, 0] S1x768.size inb_S4x768_S1x768_3_0).toLoadRect (harg1.unread s)) shapeCasts_S1x768_S1x768)
        (extractAt (s := S1x1) ![0, 0] (tailRun.sl.v693 c arg0 harg0 e) inpos_S1x1_p0_0) (extractAt (s := S1x1) ![0, 0] (tailRun.sl.v699 c arg0 harg0 e) inpos_S1x1_p0_0) (extractAt (s := S1x1) ![0, 0] (tailRun.sl.v705 c arg0 harg0 e) inpos_S1x1_p0_0) (extractAt (s := S1x1) ![0, 0] (tailRun.sl.v711 c arg0 harg0 e) inpos_S1x1_p0_0) (extractAt (s := S1x1) ![0, 0] (tailRun.sl.v717 c arg0 harg0 e) inpos_S1x1_p0_0) (extractAt (s := S1x1) ![0, 0] (tailRun.sl.v723 c arg0 harg0 e) inpos_S1x1_p0_0) (extractAt (s := S1x1) ![0, 0] (tailRun.sl.v729 c arg0 harg0 e) inpos_S1x1_p0_0) (extractAt (s := S1x1) ![0, 0] (tailRun.sl.v735 c arg0 harg0 e) inpos_S1x1_p0_0) (extractAt (s := S1x1) ![0, 0] (tailRun.sl.v741 c arg0 harg0 e) inpos_S1x1_p0_0)
        (tailRun.sl.v695 c arg0 harg0 e x hI) (tailRun.sl.v701 c arg0 harg0 e x hI) (tailRun.sl.v707 c arg0 harg0 e x hI) (tailRun.sl.v713 c arg0 harg0 e x hI) (tailRun.sl.v719 c arg0 harg0 e x hI) (tailRun.sl.v725 c arg0 harg0 e x hI) (tailRun.sl.v731 c arg0 harg0 e x hI) (tailRun.sl.v737 c arg0 harg0 e x hI) := rfl
  rw [h]
  exact rowComb_congr (sum_load harg1 s (b := 3) (by decide))
    (weight_val arg0 harg0 e (b := 3) (k := 0) (by decide) (by decide) (inb := inb_S4x128_S1x1_3_0))
    (row_val c arg0 harg0 e x hI (b := 3) (k := 0) (r := 24) (by decide) (by decide) (by decide) (inbr := inb_S32x768_S1x768_24_0))
    (weight_val arg0 harg0 e (b := 3) (k := 1) (by decide) (by decide) (inb := inb_S4x128_S1x1_3_1))
    (row_val c arg0 harg0 e x hI (b := 3) (k := 1) (r := 25) (by decide) (by decide) (by decide) (inbr := inb_S32x768_S1x768_25_0))
    (weight_val arg0 harg0 e (b := 3) (k := 2) (by decide) (by decide) (inb := inb_S4x128_S1x1_3_2))
    (row_val c arg0 harg0 e x hI (b := 3) (k := 2) (r := 26) (by decide) (by decide) (by decide) (inbr := inb_S32x768_S1x768_26_0))
    (weight_val arg0 harg0 e (b := 3) (k := 3) (by decide) (by decide) (inb := inb_S4x128_S1x1_3_3))
    (row_val c arg0 harg0 e x hI (b := 3) (k := 3) (r := 27) (by decide) (by decide) (by decide) (inbr := inb_S32x768_S1x768_27_0))
    (weight_val arg0 harg0 e (b := 3) (k := 4) (by decide) (by decide) (inb := inb_S4x128_S1x1_3_4))
    (row_val c arg0 harg0 e x hI (b := 3) (k := 4) (r := 28) (by decide) (by decide) (by decide) (inbr := inb_S32x768_S1x768_28_0))
    (weight_val arg0 harg0 e (b := 3) (k := 5) (by decide) (by decide) (inb := inb_S4x128_S1x1_3_5))
    (row_val c arg0 harg0 e x hI (b := 3) (k := 5) (r := 29) (by decide) (by decide) (by decide) (inbr := inb_S32x768_S1x768_29_0))
    (weight_val arg0 harg0 e (b := 3) (k := 6) (by decide) (by decide) (inb := inb_S4x128_S1x1_3_6))
    (row_val c arg0 harg0 e x hI (b := 3) (k := 6) (r := 30) (by decide) (by decide) (by decide) (inbr := inb_S32x768_S1x768_30_0))
    (weight_val arg0 harg0 e (b := 3) (k := 7) (by decide) (by decide) (inb := inb_S4x128_S1x1_3_7))
    (row_val c arg0 harg0 e x hI (b := 3) (k := 7) (r := 31) (by decide) (by decide) (by decide) (inbr := inb_S32x768_S1x768_31_0))
    (weight_val arg0 harg0 e (b := 3) (k := 8) (by decide) (by decide) (inb := inb_S4x128_S1x1_3_8))

theorem row2_eq : k1_pay48 (tailRun.sl.r_22 c arg0 harg0 arg1 harg1 e s x hI) (tailRun.sl.r_23 c arg0 harg0 e)
    = outRow s (xM.view.read (Elt F) x) (idxAll (scores arg0 harg0 e)) (wAll (scores arg0 harg0 e)) 2 := by
  have h : k1_pay48 (tailRun.sl.r_22 c arg0 harg0 arg1 harg1 e s x hI) (tailRun.sl.r_23 c arg0 harg0 e)
      = rowComb (shapeCast S1x768 (View.readAt (Elt F) arg1.view (Rect.unit (s := S4x768) ![2, 0] S1x768.size inb_S4x768_S1x768_2_0).toLoadRect (harg1.unread s)) shapeCasts_S1x768_S1x768)
        (extractAt (s := S1x1) ![0, 0] (tailRun.sl.v638 c arg0 harg0 e) inpos_S1x1_p0_0) (extractAt (s := S1x1) ![0, 0] (tailRun.sl.v644 c arg0 harg0 e) inpos_S1x1_p0_0) (extractAt (s := S1x1) ![0, 0] (tailRun.sl.v650 c arg0 harg0 e) inpos_S1x1_p0_0) (extractAt (s := S1x1) ![0, 0] (tailRun.sl.v656 c arg0 harg0 e) inpos_S1x1_p0_0) (extractAt (s := S1x1) ![0, 0] (tailRun.sl.v662 c arg0 harg0 e) inpos_S1x1_p0_0) (extractAt (s := S1x1) ![0, 0] (tailRun.sl.v668 c arg0 harg0 e) inpos_S1x1_p0_0) (extractAt (s := S1x1) ![0, 0] (tailRun.sl.v674 c arg0 harg0 e) inpos_S1x1_p0_0) (extractAt (s := S1x1) ![0, 0] (tailRun.sl.v680 c arg0 harg0 e) inpos_S1x1_p0_0) (extractAt (s := S1x1) ![0, 0] (tailRun.sl.v686 c arg0 harg0 e) inpos_S1x1_p0_0)
        (tailRun.sl.v640 c arg0 harg0 e x hI) (tailRun.sl.v646 c arg0 harg0 e x hI) (tailRun.sl.v652 c arg0 harg0 e x hI) (tailRun.sl.v658 c arg0 harg0 e x hI) (tailRun.sl.v664 c arg0 harg0 e x hI) (tailRun.sl.v670 c arg0 harg0 e x hI) (tailRun.sl.v676 c arg0 harg0 e x hI) (tailRun.sl.v682 c arg0 harg0 e x hI) := rfl
  rw [h]
  exact rowComb_congr (sum_load harg1 s (b := 2) (by decide))
    (weight_val arg0 harg0 e (b := 2) (k := 0) (by decide) (by decide) (inb := inb_S4x128_S1x1_2_0))
    (row_val c arg0 harg0 e x hI (b := 2) (k := 0) (r := 16) (by decide) (by decide) (by decide) (inbr := inb_S32x768_S1x768_16_0))
    (weight_val arg0 harg0 e (b := 2) (k := 1) (by decide) (by decide) (inb := inb_S4x128_S1x1_2_1))
    (row_val c arg0 harg0 e x hI (b := 2) (k := 1) (r := 17) (by decide) (by decide) (by decide) (inbr := inb_S32x768_S1x768_17_0))
    (weight_val arg0 harg0 e (b := 2) (k := 2) (by decide) (by decide) (inb := inb_S4x128_S1x1_2_2))
    (row_val c arg0 harg0 e x hI (b := 2) (k := 2) (r := 18) (by decide) (by decide) (by decide) (inbr := inb_S32x768_S1x768_18_0))
    (weight_val arg0 harg0 e (b := 2) (k := 3) (by decide) (by decide) (inb := inb_S4x128_S1x1_2_3))
    (row_val c arg0 harg0 e x hI (b := 2) (k := 3) (r := 19) (by decide) (by decide) (by decide) (inbr := inb_S32x768_S1x768_19_0))
    (weight_val arg0 harg0 e (b := 2) (k := 4) (by decide) (by decide) (inb := inb_S4x128_S1x1_2_4))
    (row_val c arg0 harg0 e x hI (b := 2) (k := 4) (r := 20) (by decide) (by decide) (by decide) (inbr := inb_S32x768_S1x768_20_0))
    (weight_val arg0 harg0 e (b := 2) (k := 5) (by decide) (by decide) (inb := inb_S4x128_S1x1_2_5))
    (row_val c arg0 harg0 e x hI (b := 2) (k := 5) (r := 21) (by decide) (by decide) (by decide) (inbr := inb_S32x768_S1x768_21_0))
    (weight_val arg0 harg0 e (b := 2) (k := 6) (by decide) (by decide) (inb := inb_S4x128_S1x1_2_6))
    (row_val c arg0 harg0 e x hI (b := 2) (k := 6) (r := 22) (by decide) (by decide) (by decide) (inbr := inb_S32x768_S1x768_22_0))
    (weight_val arg0 harg0 e (b := 2) (k := 7) (by decide) (by decide) (inb := inb_S4x128_S1x1_2_7))
    (row_val c arg0 harg0 e x hI (b := 2) (k := 7) (r := 23) (by decide) (by decide) (by decide) (inbr := inb_S32x768_S1x768_23_0))
    (weight_val arg0 harg0 e (b := 2) (k := 8) (by decide) (by decide) (inb := inb_S4x128_S1x1_2_8))

theorem row1_eq : k1_pay43 (tailRun.sl.r_18 c arg0 harg0 arg1 harg1 e s x hI) (tailRun.sl.r_19 c arg0 harg0 e x hI) (tailRun.sl.v619 c arg0 harg0 e) (tailRun.sl.v621 c arg0 harg0 e x hI) (tailRun.sl.v625 c arg0 harg0 e) (tailRun.sl.v627 c arg0 harg0 e x hI) (tailRun.sl.v631 c arg0 harg0 e)
    = outRow s (xM.view.read (Elt F) x) (idxAll (scores arg0 harg0 e)) (wAll (scores arg0 harg0 e)) 1 := by
  have h : k1_pay43 (tailRun.sl.r_18 c arg0 harg0 arg1 harg1 e s x hI) (tailRun.sl.r_19 c arg0 harg0 e x hI) (tailRun.sl.v619 c arg0 harg0 e) (tailRun.sl.v621 c arg0 harg0 e x hI) (tailRun.sl.v625 c arg0 harg0 e) (tailRun.sl.v627 c arg0 harg0 e x hI) (tailRun.sl.v631 c arg0 harg0 e)
      = rowComb (shapeCast S1x768 (View.readAt (Elt F) arg1.view (Rect.unit (s := S4x768) ![1, 0] S1x768.size inb_S4x768_S1x768_1_0).toLoadRect (harg1.unread s)) shapeCasts_S1x768_S1x768)
        (extractAt (s := S1x1) ![0, 0] (tailRun.sl.v583 c arg0 harg0 e) inpos_S1x1_p0_0) (extractAt (s := S1x1) ![0, 0] (tailRun.sl.v589 c arg0 harg0 e) inpos_S1x1_p0_0) (extractAt (s := S1x1) ![0, 0] (tailRun.sl.v595 c arg0 harg0 e) inpos_S1x1_p0_0) (extractAt (s := S1x1) ![0, 0] (tailRun.sl.v601 c arg0 harg0 e) inpos_S1x1_p0_0) (extractAt (s := S1x1) ![0, 0] (tailRun.sl.v607 c arg0 harg0 e) inpos_S1x1_p0_0) (extractAt (s := S1x1) ![0, 0] (tailRun.sl.v613 c arg0 harg0 e) inpos_S1x1_p0_0) (extractAt (s := S1x1) ![0, 0] (tailRun.sl.v619 c arg0 harg0 e) inpos_S1x1_p0_0) (extractAt (s := S1x1) ![0, 0] (tailRun.sl.v625 c arg0 harg0 e) inpos_S1x1_p0_0) (extractAt (s := S1x1) ![0, 0] (tailRun.sl.v631 c arg0 harg0 e) inpos_S1x1_p0_0)
        (tailRun.sl.v585 c arg0 harg0 e x hI) (tailRun.sl.v591 c arg0 harg0 e x hI) (tailRun.sl.v597 c arg0 harg0 e x hI) (tailRun.sl.v603 c arg0 harg0 e x hI) (tailRun.sl.v609 c arg0 harg0 e x hI) (tailRun.sl.v615 c arg0 harg0 e x hI) (tailRun.sl.v621 c arg0 harg0 e x hI) (tailRun.sl.v627 c arg0 harg0 e x hI) := rfl
  rw [h]
  exact rowComb_congr (sum_load harg1 s (b := 1) (by decide))
    (weight_val arg0 harg0 e (b := 1) (k := 0) (by decide) (by decide) (inb := inb_S4x128_S1x1_1_0))
    (row_val c arg0 harg0 e x hI (b := 1) (k := 0) (r := 8) (by decide) (by decide) (by decide) (inbr := inb_S32x768_S1x768_8_0))
    (weight_val arg0 harg0 e (b := 1) (k := 1) (by decide) (by decide) (inb := inb_S4x128_S1x1_1_1))
    (row_val c arg0 harg0 e x hI (b := 1) (k := 1) (r := 9) (by decide) (by decide) (by decide) (inbr := inb_S32x768_S1x768_9_0))
    (weight_val arg0 harg0 e (b := 1) (k := 2) (by decide) (by decide) (inb := inb_S4x128_S1x1_1_2))
    (row_val c arg0 harg0 e x hI (b := 1) (k := 2) (r := 10) (by decide) (by decide) (by decide) (inbr := inb_S32x768_S1x768_10_0))
    (weight_val arg0 harg0 e (b := 1) (k := 3) (by decide) (by decide) (inb := inb_S4x128_S1x1_1_3))
    (row_val c arg0 harg0 e x hI (b := 1) (k := 3) (r := 11) (by decide) (by decide) (by decide) (inbr := inb_S32x768_S1x768_11_0))
    (weight_val arg0 harg0 e (b := 1) (k := 4) (by decide) (by decide) (inb := inb_S4x128_S1x1_1_4))
    (row_val c arg0 harg0 e x hI (b := 1) (k := 4) (r := 12) (by decide) (by decide) (by decide) (inbr := inb_S32x768_S1x768_12_0))
    (weight_val arg0 harg0 e (b := 1) (k := 5) (by decide) (by decide) (inb := inb_S4x128_S1x1_1_5))
    (row_val c arg0 harg0 e x hI (b := 1) (k := 5) (r := 13) (by decide) (by decide) (by decide) (inbr := inb_S32x768_S1x768_13_0))
    (weight_val arg0 harg0 e (b := 1) (k := 6) (by decide) (by decide) (inb := inb_S4x128_S1x1_1_6))
    (row_val c arg0 harg0 e x hI (b := 1) (k := 6) (r := 14) (by decide) (by decide) (by decide) (inbr := inb_S32x768_S1x768_14_0))
    (weight_val arg0 harg0 e (b := 1) (k := 7) (by decide) (by decide) (inb := inb_S4x128_S1x1_1_7))
    (row_val c arg0 harg0 e x hI (b := 1) (k := 7) (r := 15) (by decide) (by decide) (by decide) (inbr := inb_S32x768_S1x768_15_0))
    (weight_val arg0 harg0 e (b := 1) (k := 8) (by decide) (by decide) (inb := inb_S4x128_S1x1_1_8))

theorem row0_eq : k1_pay40 (tailRun.sl.r_16 c arg0 harg0 arg1 harg1 e s x hI) (tailRun.sl.v546 c arg0 harg0 e) (tailRun.sl.v548 c arg0 harg0 e x hI) (tailRun.sl.v552 c arg0 harg0 e) (tailRun.sl.v554 c arg0 harg0 e x hI) (tailRun.sl.v558 c arg0 harg0 e) (tailRun.sl.v560 c arg0 harg0 e x hI) (tailRun.sl.v564 c arg0 harg0 e) (tailRun.sl.v566 c arg0 harg0 e x hI) (tailRun.sl.v570 c arg0 harg0 e) (tailRun.sl.v572 c arg0 harg0 e x hI) (tailRun.sl.v576 c arg0 harg0 e)
    = outRow s (xM.view.read (Elt F) x) (idxAll (scores arg0 harg0 e)) (wAll (scores arg0 harg0 e)) 0 := by
  have h : k1_pay40 (tailRun.sl.r_16 c arg0 harg0 arg1 harg1 e s x hI) (tailRun.sl.v546 c arg0 harg0 e) (tailRun.sl.v548 c arg0 harg0 e x hI) (tailRun.sl.v552 c arg0 harg0 e) (tailRun.sl.v554 c arg0 harg0 e x hI) (tailRun.sl.v558 c arg0 harg0 e) (tailRun.sl.v560 c arg0 harg0 e x hI) (tailRun.sl.v564 c arg0 harg0 e) (tailRun.sl.v566 c arg0 harg0 e x hI) (tailRun.sl.v570 c arg0 harg0 e) (tailRun.sl.v572 c arg0 harg0 e x hI) (tailRun.sl.v576 c arg0 harg0 e)
      = rowComb (shapeCast S1x768 (View.readAt (Elt F) arg1.view (Rect.unit (s := S4x768) ![0, 0] S1x768.size inb_S4x768_S1x768_0_0).toLoadRect (harg1.unread s)) shapeCasts_S1x768_S1x768)
        (extractAt (s := S1x1) ![0, 0] (tailRun.sl.v528 c arg0 harg0 e) inpos_S1x1_p0_0) (extractAt (s := S1x1) ![0, 0] (tailRun.sl.v534 c arg0 harg0 e) inpos_S1x1_p0_0) (extractAt (s := S1x1) ![0, 0] (tailRun.sl.v540 c arg0 harg0 e) inpos_S1x1_p0_0) (extractAt (s := S1x1) ![0, 0] (tailRun.sl.v546 c arg0 harg0 e) inpos_S1x1_p0_0) (extractAt (s := S1x1) ![0, 0] (tailRun.sl.v552 c arg0 harg0 e) inpos_S1x1_p0_0) (extractAt (s := S1x1) ![0, 0] (tailRun.sl.v558 c arg0 harg0 e) inpos_S1x1_p0_0) (extractAt (s := S1x1) ![0, 0] (tailRun.sl.v564 c arg0 harg0 e) inpos_S1x1_p0_0) (extractAt (s := S1x1) ![0, 0] (tailRun.sl.v570 c arg0 harg0 e) inpos_S1x1_p0_0) (extractAt (s := S1x1) ![0, 0] (tailRun.sl.v576 c arg0 harg0 e) inpos_S1x1_p0_0)
        (tailRun.sl.v530 c arg0 harg0 e x hI) (tailRun.sl.v536 c arg0 harg0 e x hI) (tailRun.sl.v542 c arg0 harg0 e x hI) (tailRun.sl.v548 c arg0 harg0 e x hI) (tailRun.sl.v554 c arg0 harg0 e x hI) (tailRun.sl.v560 c arg0 harg0 e x hI) (tailRun.sl.v566 c arg0 harg0 e x hI) (tailRun.sl.v572 c arg0 harg0 e x hI) := rfl
  rw [h]
  exact rowComb_congr (sum_load harg1 s (b := 0) (by decide))
    (weight_val arg0 harg0 e (b := 0) (k := 0) (by decide) (by decide) (inb := inb_S4x128_S1x1_0_0))
    (row_val c arg0 harg0 e x hI (b := 0) (k := 0) (r := 0) (by decide) (by decide) (by decide) (inbr := inb_S32x768_S1x768_0_0))
    (weight_val arg0 harg0 e (b := 0) (k := 1) (by decide) (by decide) (inb := inb_S4x128_S1x1_0_1))
    (row_val c arg0 harg0 e x hI (b := 0) (k := 1) (r := 1) (by decide) (by decide) (by decide) (inbr := inb_S32x768_S1x768_1_0))
    (weight_val arg0 harg0 e (b := 0) (k := 2) (by decide) (by decide) (inb := inb_S4x128_S1x1_0_2))
    (row_val c arg0 harg0 e x hI (b := 0) (k := 2) (r := 2) (by decide) (by decide) (by decide) (inbr := inb_S32x768_S1x768_2_0))
    (weight_val arg0 harg0 e (b := 0) (k := 3) (by decide) (by decide) (inb := inb_S4x128_S1x1_0_3))
    (row_val c arg0 harg0 e x hI (b := 0) (k := 3) (r := 3) (by decide) (by decide) (by decide) (inbr := inb_S32x768_S1x768_3_0))
    (weight_val arg0 harg0 e (b := 0) (k := 4) (by decide) (by decide) (inb := inb_S4x128_S1x1_0_4))
    (row_val c arg0 harg0 e x hI (b := 0) (k := 4) (r := 4) (by decide) (by decide) (by decide) (inbr := inb_S32x768_S1x768_4_0))
    (weight_val arg0 harg0 e (b := 0) (k := 5) (by decide) (by decide) (inb := inb_S4x128_S1x1_0_5))
    (row_val c arg0 harg0 e x hI (b := 0) (k := 5) (r := 5) (by decide) (by decide) (by decide) (inbr := inb_S32x768_S1x768_5_0))
    (weight_val arg0 harg0 e (b := 0) (k := 6) (by decide) (by decide) (inb := inb_S4x128_S1x1_0_6))
    (row_val c arg0 harg0 e x hI (b := 0) (k := 6) (r := 6) (by decide) (by decide) (by decide) (inbr := inb_S32x768_S1x768_6_0))
    (weight_val arg0 harg0 e (b := 0) (k := 7) (by decide) (by decide) (inb := inb_S4x128_S1x1_0_7))
    (row_val c arg0 harg0 e x hI (b := 0) (k := 7) (r := 7) (by decide) (by decide) (by decide) (inbr := inb_S32x768_S1x768_7_0))
    (weight_val arg0 harg0 e (b := 0) (k := 8) (by decide) (by decide) (inb := inb_S4x128_S1x1_0_8))

/-- What the call leaves in its result. -/
theorem tail_read (f : arg3.view.ty.Contents (Elt F)) :
    arg3.view.read (Elt F) (arg3.view.writes (Elt F) f (tailRun c arg0 harg0 arg1 harg1 arg3 harg3 e s x hI).1)
      = tailOut e s (xM.view.read (Elt F) x) := by
  have hc : ∀ y, ∃ p ∈ (tailRun c arg0 harg0 arg1 harg1 arg3 harg3 e s x hI).1, y ∈ p.1.set := by
    intro y
    have hy : (y 0).val < 4 := (y 0).isLt
    have hm : ∀ r : Nat, (y 0).val = r → ∀ inbr : ∀ a, (![r, 0] : Fin 2 → Nat) a + S1x768.size a ≤ S4x768.size a,
        y ∈ (Rect.unit (s := S4x768) ![r, 0] S1x768.size inbr).set := by
      intro r h inbr
      have hr : r < 4 := by omega
      have hz : (Rect.unit (s := S4x768) ![r, 0] S1x768.size inbr).emb (ix2 (0 : Fin 1) (y 1)) = y := by
        rw [emb_row (n := 4) hr]; subst h; exact (eq_ix2 y).symm
      exact hz ▸ LoadRect.idx_mem _ _
    unfold tailRun
    obtain h | h | h | h : (y 0).val = 3 ∨ (y 0).val = 2 ∨ (y 0).val = 1 ∨ (y 0).val = 0 := by omega
    · exact ⟨_, List.Mem.head _, hm 3 h inb_S4x768_S1x768_3_0⟩
    · exact ⟨_, List.Mem.tail _ (List.Mem.head _), hm 2 h inb_S4x768_S1x768_2_0⟩
    · exact ⟨_, List.Mem.tail _ (List.Mem.tail _ (List.Mem.head _)), hm 1 h inb_S4x768_S1x768_1_0⟩
    · exact ⟨_, List.Mem.tail _ (List.Mem.tail _ (List.Mem.tail _ (List.Mem.head _))), hm 0 h inb_S4x768_S1x768_0_0⟩
  rw [View.read_writes_eq_canon _ _ _ hc]
  funext y
  rw [View.canon_apply_of_pieces (tailOut (scores arg0 harg0 e) s (xM.view.read (Elt F) x)) _ ?_ y (hc y), scores_eq]
  unfold tailRun
  simp only [List.forall_mem_cons]
  have row : ∀ (b : Nat) (hb : b < 4) (inbr : ∀ a, (![b, 0] : Fin 2 → Nat) a + S1x768.size a ≤ S4x768.size a) (P : FVec F S1x768 .f32)
      (_ : P = outRow s (xM.view.read (Elt F) x) (idxAll (scores arg0 harg0 e)) (wAll (scores arg0 harg0 e)) ⟨b, hb⟩) (z : S1x768.Idx),
      P z = tailOut (scores arg0 harg0 e) s (xM.view.read (Elt F) x) ((Rect.unit (s := S4x768) ![b, 0] S1x768.size inbr).emb z) := by
    intro b hb inbr P hP z
    rw [emb_row (n := 4) hb, hP]
    rfl
  exact ⟨row 3 (by decide) _ _ (row3_eq c arg0 harg0 arg1 harg1 e s x hI), row 2 (by decide) _ _ (row2_eq c arg0 harg0 arg1 harg1 e s x hI),
    row 1 (by decide) _ _ (row1_eq c arg0 harg0 arg1 harg1 e s x hI), row 0 (by decide) _ _ (row0_eq c arg0 harg0 arg1 harg1 e s x hI),
    fun p hp => absurd hp List.not_mem_nil⟩

end Cert.KernelIdeal.Tail
-- ==== Proof.TailRegion.lean ====
module

public import proofs.«01_k».proof.Proof.TailValue
public import Idealize.ShloMosaic.Lib.Pipeline.Frame
public import Idealize.ShloMosaic.Lib.Pipeline.FrameBody

/-! The second call as one point of a pipeline: it reads the scores, the sum and rows of the input, and writes the result. -/

@[expose] public section

set_option maxRecDepth 16384

noncomputable section

namespace Cert.KernelIdeal.TailRegion

open Cert.KernelIdeal Cert.KernelIdeal.Gen Cert.KernelIdeal.Tail Cert.KernelIdeal.Rounds8
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (A : (c : Dev nD) → (b : Ref sig .tc) → Buf (Elt F) ((c : Thread nD τ).loc b))

/-- Window `w`'s block, off the arrays as the call finds them. -/
def blk (c : Dev nD) (w : Fin cfg1.W) (t : Fin cfg1.N) : ((cfg1.win w).xblock (cfg1.grid.coords t)).Idx → Elt F (cfg1.win w).elt :=
  ((cfg1.win w).blk t).view.read (Elt F) (A c (Pipeline.arrRef spec1 w))

/-- What the call writes. -/
abbrev result (c : Dev nD) (t : Fin cfg1.N) : Vec F S4x768 .f32 :=
  tailOut (F := F) (blk A c 0 t) (blk A c 1 t) (xM.view.read (Elt F) (A c main_arg0))

/-- The call's own semaphore. -/
abbrev osem : Fin 1 → SemLoc sig := fun _ => SemLoc.dma 9
theorem ownSemFacts : Pipeline.OwnSemFacts spec1 osem := by decide

/-- Between points: the scratch buffers, the input held whole, the copies' semaphore at zero. -/
abbrev inv (c : Dev nD) : sProp 𝕄 :=
  iprop(Pipeline.scopedRest spec1 c ∗ pt c xM (A c main_arg0) ∗ semVal ((c : Thread nD τ), SemLoc.dma 9) 0)

/-- The second call's proof data. -/
def dat (c : Dev nD) : Dat τ (Elt F) Unit ℕ (Pipeline.UD sig nD τ) ℕ cfg1 c where
  A w := A c (Pipeline.arrRef spec1 w)
  after w t := match w with
    | ⟨0, _⟩ => blk A c 0 t
    | ⟨1, _⟩ => blk A c 1 t
    | ⟨2, _⟩ => result A c t
  Φ _ := inv A c
  q _ := fullShare
  owed _ := 0

theorem A_eq (c : Dev nD) (w : Fin cfg1.W) : (dat A c).A w = A c (Pipeline.arrRef spec1 w) := by dsimp only [dat]
theorem after_0 (c : Dev nD) (t : Fin cfg1.N) : (dat A c).after 0 t = blk A c 0 t := by dsimp only [dat]
theorem after_1 (c : Dev nD) (t : Fin cfg1.N) : (dat A c).after 1 t = blk A c 1 t := by dsimp only [dat]
theorem after_2 (c : Dev nD) (t : Fin cfg1.N) : (dat A c).after 2 t = result A c t := by dsimp only [dat]

theorem before_0 (c : Dev nD) (t : Fin cfg1.N) (d) : (dat A c).before 0 t d = blk A c 0 t :=
  ((dat A c).before_in_eq_fetched 0 rfl (fun _ => rfl) (fun _ _ _ => rfl) (fun t => by rw [after_0]; unfold Dat.blockOf blk; rw [A_eq]) t d).trans
    (by unfold Dat.fetched Dat.blockOf blk; rw [A_eq]; try rfl)
theorem before_1 (c : Dev nD) (t : Fin cfg1.N) (d) : (dat A c).before 1 t d = blk A c 1 t :=
  ((dat A c).before_in_eq_fetched 1 rfl (fun _ => rfl) (fun _ _ _ => rfl) (fun t => by rw [after_1]; unfold Dat.blockOf blk; rw [A_eq]) t d).trans
    (by unfold Dat.fetched Dat.blockOf blk; rw [A_eq]; try rfl)

abbrev m0 (t : Fin cfg1.N) : Memref sig .tc .vmem S4x8192 .f32 := win1_0.stage (cfg1.slots t 0)
abbrev m1 (t : Fin cfg1.N) : Memref sig .tc .vmem S4x768 .f32 := win1_1.stage (cfg1.slots t 1)
abbrev m2 (t : Fin cfg1.N) : Memref sig .tc .vmem S4x768 .f32 := win1_2.stage (cfg1.slots t 2)

def bodyPre (c : Dev nD) (t : Fin cfg1.N) : sProp 𝕄 :=
  iprop((dat A c).Φ t.castSucc ∗ (dat A c).owesAt () t.castSucc
    ∗ (∃ d, owns (c : Thread nD τ) (m0 t) fullShare ((dat A c).before 0 t d))
    ∗ (∃ d, owns (c : Thread nD τ) (m1 t) fullShare ((dat A c).before 1 t d))
    ∗ (∃ d, owns (c : Thread nD τ) (m2 t) fullShare ((dat A c).before 2 t d)))

def bodyPost (c : Dev nD) (t : Fin cfg1.N) : sProp 𝕄 :=
  iprop((dat A c).Φ t.succ ∗ (dat A c).owesAt () t.succ
    ∗ (dat A c).leavesExact 0 t ∗ (dat A c).leavesExact 1 t ∗ (dat A c).leavesExact 2 t)

set_option maxHeartbeats 800000 in
theorem sound_body (c : Dev nD) (t : Fin cfg1.N) (hI : ∀ j, (idxAll (F := F) (blk A c 0 t) j).toNat < 8192) :
    bodyPre A c t ⊢ wp frame (wpE (defs₀ (F := F)) Variants.none c none) Set.univ (bodyAt1 t) (fun _ => bodyPost A c t) := by
  unfold bodyPre bodyPost bodyAt1
  simp only [before_0, before_1]
  rw [show (dat A c).Φ t.succ = inv A c from rfl, show (dat A c).Φ t.castSucc = inv A c from rfl,
    show (dat A c).leavesExact 0 t = owns (c : Thread nD τ) (m0 t) fullShare (blk A c 0 t) from by rw [← after_0],
    show (dat A c).leavesExact 1 t = owns (c : Thread nD τ) (m1 t) fullShare (blk A c 1 t) from by rw [← after_1],
    show (dat A c).leavesExact 2 t = owns (c : Thread nD τ) (m2 t) fullShare (result A c t) from by rw [← after_2]]
  unfold inv
  rw [scopedRest1_eq]
  unfold Pipeline.Dat.owesAt Pipeline.owesWithin
  iintro ⟨⟨⟨S0, S1, S2, S3, S4, S5, ⟨%f4, H4⟩, ⟨%f5, H5⟩, ⟨%f6, H6⟩⟩, Hx, Hq⟩, ⟨%W, -, HW⟩, ⟨%d0, H0⟩, ⟨%d1, H1⟩, ⟨%d2, H2⟩⟩
  have hI' : ∀ j, (idxAll (F := F) (scores (m0 t) (hstage1_0 0) (blk A c 0 t)) j).toNat < 8192 := by
    rw [scores_eq]; exact hI
  iapply ((tailRun (F := F) c (m0 t) (hstage1_0 0) (m1 t) (hstage1_1 0) (m2 t) (hstage1_2 0) (blk A c 0 t) (blk A c 1 t) (A c main_arg0) hI').2 trivial W _ f4 f5 f6)
  isplitl [H0]; · iexact H0
  isplitl [H1]; · iexact H1
  isplitl [H2]; · iexists _; iexact H2
  isplitl [Hx]; · iexact Hx
  isplitl [H4]; · iexact H4
  isplitl [H5]; · iexact H5
  isplitl [H6]; · iexact H6
  isplitl [Hq]; · iexact Hq
  isplitl [HW]; · iexact HW
  iintro ⟨H0, H1, ⟨%f, H2⟩, Hx, H4, H5, H6, Hq, ⟨%W', HW⟩⟩
  isplitr [HW H0 H1 H2]
  · isplitr [Hx Hq]
    · isplitl [S0]; · iexact S0
      isplitl [S1]; · iexact S1
      isplitl [S2]; · iexact S2
      isplitl [S3]; · iexact S3
      isplitl [S4]; · iexact S4
      isplitl [S5]; · iexact S5
      isplitl [H4]; · iexact H4
      isplitl [H5]; · iexact H5
      iexact H6
    · isplitl [Hx]; · iexact Hx
      iexact Hq
  isplitl [HW]
  · iexists W'; isplitr; · ipureintro; exact fun _ _ => Or.inl trivial
    iexact HW
  isplitl [H0]; · iexact H0
  isplitl [H1]; · iexact H1
  unfold owns
  iexists _; isplitr; swap; · iexact H2
  ipureintro
  exact tail_read c (m0 t) (hstage1_0 0) (m1 t) (hstage1_1 0) (m2 t) (hstage1_2 0) (blk A c 0 t) (blk A c 1 t) (A c main_arg0) hI' f

theorem defs₀_row (t : Fin cfg1.N) :
    defs₀ (F := F) .tc cfg1.body (cfg1.bodyArgs t (cfg1.slots t)) = bodyAt1 t := by
  unfold defs₀; rw [Defs.onTc_tc]

theorem body_obligation (c : Dev nD) (hI : ∀ t j, (idxAll (F := F) (blk A c 0 t) j).toNat < 8192) :
    BodyObligation (dat A c) (defs₀ (F := F)) Variants.none () Set.univ := fun t => by
  rw [bigSep_W1, bigSep_W1, defs₀_row]
  exact triple_restated (sound_body A c t (hI t)) rfl .rfl fun _ => .rfl

end Cert.KernelIdeal.TailRegion

end
-- ==== Proof.KernelRun.lean ====
module

public import proofs.«01_k».proof.Proof.Pass
public import proofs.«01_k».proof.Proof.TailRegion
public import Idealize.ShloMosaic.Lib.Pipeline.Regions
public import Idealize.ShloMosaic.Lib.Pipeline.RegionsLoop

/-! The two calls one after the other: what every buffer holds at the end, given that the positions the second call
selects lie inside the input. -/

@[expose] public section

set_option maxRecDepth 16384

noncomputable section

namespace Cert.KernelIdeal.Whole

open Cert.KernelIdeal Cert.KernelIdeal.Gen Cert.KernelIdeal.Tail Cert.KernelIdeal.Rounds8
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg RegionSeg)

variable {F : FTy → Type} [FloatOps F]

local notation "𝕄" => MT nD τ sig Unit (Elt F) ℕ (Pipeline.UD sig nD τ) ℕ

/-- The pipelines' share of the ghost state. -/
abbrev EP : Emb (UR sig nD τ) (MT nD τ sig Unit (Elt F) ℕ (Pipeline.UD sig nD τ) ℕ) := embL

abbrev L : GSem nD τ sig → Finset Unit := fun _ => ∅
abbrev lv : GSem nD τ sig → Unit → ℕ := fun _ _ => 0
abbrev adm : (p : Fin 2) → (pcfgs (F := F) p).Adm := fun p => (cfgs p).toPCfg_adm

variable (m : (ℓ : Loc nD τ sig) → Buf (Elt F) ℓ) (ρ : Dev nD → PrngReg)

/-! ## The buffers between the calls -/

/-- At launch. -/
abbrev W0 (c : Dev nD) (b : Ref sig .tc) : Buf (Elt F) ((c : Thread nD τ).loc b) := m ((c : Thread nD τ).loc b)
/-- After the first call: scores and sum written. -/
def W1 (c : Dev nD) (b : Ref sig .tc) : Buf (Elt F) ((c : Thread nD τ).loc b) :=
  Function.update (Function.update (W0 m c) main_v0_0 ((Pass.dat (W0 m) c).arrAt 2 cfg0.N)) main_v0_1 ((Pass.dat (W0 m) c).arrAt 3 cfg0.N) b
/-- After the second call: the result written. -/
def W2 (c : Dev nD) (b : Ref sig .tc) : Buf (Elt F) ((c : Thread nD τ).loc b) :=
  Function.update (W1 m c) main_v1 ((TailRegion.dat (W1 m) c).arrAt 2 cfg1.N) b

theorem W1_scores (c : Dev nD) : W1 m c main_v0_0 = (Pass.dat (W0 m) c).arrAt 2 cfg0.N := by
  unfold W1; rw [Function.update_of_ne (by decide), Function.update_self]
theorem W1_sum (c : Dev nD) : W1 m c main_v0_1 = (Pass.dat (W0 m) c).arrAt 3 cfg0.N := by
  unfold W1; rw [Function.update_self]
theorem W1_of (c : Dev nD) (b : Ref sig .tc) (h0 : b ≠ main_v0_0) (h1 : b ≠ main_v0_1) : W1 m c b = W0 m c b := by
  unfold W1; rw [Function.update_of_ne h1, Function.update_of_ne h0]
theorem W2_result (c : Dev nD) : W2 m c main_v1 = (TailRegion.dat (W1 m) c).arrAt 2 cfg1.N := by
  unfold W2; rw [Function.update_self]
theorem W2_of (c : Dev nD) (b : Ref sig .tc) (h : b ≠ main_v1) : W2 m c b = W1 m c b := by
  unfold W2; rw [Function.update_of_ne h]

/-- The two calls' proof data. -/
def pdats : (p : Fin 2) → (c : Dev nD) → Dat τ (Elt F) Unit ℕ (Pipeline.UD sig nD τ) ℕ (cfgs p) c
  | ⟨0, _⟩, c => Pass.dat (W0 m) c
  | ⟨1, _⟩, c => TailRegion.dat (W1 m) c

/-- What a core holds between the calls: its arrays, and that it owes nothing. -/
abbrev state (c : Dev nD) (W : (b : Ref sig .tc) → Buf (Elt F) ((c : Thread nD τ).loc b)) : sProp 𝕄 :=
  iprop(unscopedBufs c W ∗ ∃ T, owes (c : Thread nD τ) (0 : CellTallies nD τ sig Unit) T)

set_option backward.isDefEq.respectTransparency.types false in
/-- The first call. -/
def reg0 : RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (Pass.body_obligation (W0 m) c).loose
  hwaits := Pipeline.hwaits_of_owed_zero _ _ _ _ L lv 0 fun _ _ => rfl
  pre c := state c (W0 m c)
  post c := state c (W1 m c)
  X _ := BI.emp
  Y _ := BI.emp
  Z c := Pipeline.unscopedRest (Ix := Unit) (Name := ℕ) (U := Pipeline.UD sig nD τ) (Lvl := ℕ) spec0 c (W0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (W0 m c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 0 c).Φ 0 = Pipeline.scopedRest spec0 c from rfl]
    iintro ⟨-, -, Hr⟩; iexact Hr
  hout c := by
    rw [Pipeline.ownSems0_none, show (pdats m 0 c).Φ (Fin.last _) = Pipeline.scopedRest spec0 c from rfl]
    iintro Hr
    isplitr; · iempintro
    isplitr; · iempintro
    iexact Hr
  hexit c := by
    have hjoin := Pipeline.unscopedBufs_of_arrays (p := 0) (pcfgs (F := F)) adm (Ix := Unit) (Name := ℕ) (U := Pipeline.UD sig nD τ) (Lvl := ℕ) launch0.win launch0.arr_whole c
      (pdats m) ((pdats m 0 c).share_full fun _ => rfl) (W0 m c) (W1 m c) ((pdats m 0 c).arrAt · cfg0.N)
      (fun w => by
        fin_cases w
        · exact ((pdats m 0 c).arrAt_in 0 rfl _).trans (W1_of m c main_arg0 (by decide) (by decide)).symm
        · exact ((pdats m 0 c).arrAt_in 1 rfl _).trans (W1_of m c main_arg1 (by decide) (by decide)).symm
        · exact (W1_scores m c).symm
        · exact (W1_sum m c).symm)
      (fun b hb => W1_of m c b (fun h => hb (h ▸ Finset.mem_image.mpr ⟨2, Finset.mem_univ _, rfl⟩))
        (fun h => hb (h ▸ Finset.mem_image.mpr ⟨3, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

theorem ownSem_eq (c : Dev nD) :
    (Pipeline.ownSems0 (Ix := Unit) (Name := ℕ) (U := Pipeline.UD sig nD τ) (Lvl := ℕ) (Val := Elt F) (τ := τ) TailRegion.osem c : sProp 𝕄)
      = semVal ((c : Thread nD τ), SemLoc.dma 9) 0 := by
  rw [Pipeline.ownSems0_eq_of_list c TailRegion.osem [0] (by decide) (by decide)]; rfl

/-- The positions the second call selects lie inside the input. -/
abbrev Inside : Prop := ∀ c t j, (idxAll (F := F) (TailRegion.blk (W1 m) c 0 t) j).toNat < 8192

set_option backward.isDefEq.respectTransparency.types false in
/-- The second call. -/
def reg1 (hI : Inside m) : RegionSeg (pcfgs (F := F)) adm (pdats m) () defs₀ Variants.none L lv 1 where
  win := launch1.win.to₀
  block_pos := launch1.block_pos
  stage_whole := launch1.stage_whole
  K := Fin 1
  osem := TailRegion.osem
  ho := TailRegion.ownSemFacts
  hbody c := (TailRegion.body_obligation (W1 m) c (hI c)).loose
  hwaits := Pipeline.hwaits_of_owed_zero _ _ _ _ L lv 1 fun _ _ => rfl
  pre c := state c (W1 m c)
  post c := state c (W2 m c)
  X c := iprop(pt c xM (W1 m c main_arg0) ∗ semVal ((c : Thread nD τ), SemLoc.dma 9) 0)
  Y c := pt c xM (W1 m c main_arg0)
  Z c := ((c : Thread nD τ).loc main_arg1) ↦{fullShare} W1 m c main_arg1
  hentry c := by
    rw [ownSem_eq]
    have hsplit := (Pipeline.arrays_of_unscopedBufs (p := 1) (pcfgs (F := F)) adm (pdats m) launch1.win launch1.arr_whole c
      ((pdats m 1 c).share_full fun _ => rfl) (W1 m c) fun _ => rfl).trans (sep_mono .rfl (Entails.of_eq (unscopedRest1_eq c (W1 m c))))
    iintro ⟨⟨Hub, HO⟩, Hq, -⟩
    ihave H := hsplit $$ Hub
    icases H with ⟨Ha, Hx, Hw⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hx Hq]
    · isplitl [Hx]; · iexact Hx
      iexact Hq
    iexact Hw
  hin c := by
    rw [show (pdats m 1 c).Φ 0 = TailRegion.inv (W1 m) c from rfl]
    iintro ⟨⟨Hx, Hq⟩, -, Hr⟩
    isplitl [Hr]; · iexact Hr
    isplitl [Hx] <;> iassumption
  hout c := by
    rw [ownSem_eq, show (pdats m 1 c).Φ (Fin.last _) = TailRegion.inv (W1 m) c from rfl]
    iintro ⟨Hr, Hx, Hq⟩
    isplitl [Hx]; · iexact Hx
    isplitl [Hq]; · iexact Hq
    iexact Hr
  hexit c := by
    have hjoin := (sep_mono .rfl (Entails.of_eq (unscopedRest1_eq c (W1 m c)).symm)).trans
      (Pipeline.unscopedBufs_of_arrays (p := 1) (pcfgs (F := F)) adm (Ix := Unit) (Name := ℕ) (U := Pipeline.UD sig nD τ) (Lvl := ℕ) launch1.win launch1.arr_whole c
      (pdats m) ((pdats m 1 c).share_full fun _ => rfl) (W1 m c) (W2 m c) ((pdats m 1 c).arrAt · cfg1.N)
      (fun w => by
        fin_cases w
        · exact ((pdats m 1 c).arrAt_in 0 rfl _).trans (W2_of m c main_v0_0 (by decide)).symm
        · exact ((pdats m 1 c).arrAt_in 1 rfl _).trans (W2_of m c main_v0_1 (by decide)).symm
        · exact (W2_result m c).symm)
      (fun b hb => W2_of m c b (fun h => hb (h ▸ Finset.mem_image.mpr ⟨2, Finset.mem_univ _, rfl⟩))))
    iintro ⟨Ha, HO, Hx, Hw⟩
    imodintro
    isplitl [Ha Hx Hw]
    · iapply hjoin
      isplitl [Ha]; · iexact Ha
      isplitl [Hx]; · iexact Hx
      iexact Hw
    unfold Pipeline.Dat.owesAt Pipeline.owesWithin
    icases HO with ⟨%W, -, HO⟩; iexists W; iexact HO

/-! ## The run -/

/-- The ghost state at launch: the pipelines' rounds, and no counter. -/
def u₀ : Pipeline.UD sig nD τ := (initOf (Pipeline.cells cfgs cellOf_inj) (Pipeline.launchToks cfgs cellOf_inj), 1)

theorem all_scoped : ∀ sm : SemLoc sig, sm.isScoped .tc = true := by decide

set_option backward.isDefEq.respectTransparency.types false in
/-- Every fair execution ends, with every array at `W2` and every semaphore at zero. -/
theorem run (hI : Inside m) : θ_run defs (onTc (τ := τ) (main (F := F))) ⟨m, fun _ => 0, ρ⟩ (fun r =>
    (∀ c : Dev nD, ∀ b : Ref sig .tc, ¬ b.isScoped → r.2.mem ((c : Thread nD τ).loc b) = W2 m c b) ∧ r.2.sem = fun _ => 0) :=
  Pipeline.θ_run_regions_kit_dev_sems (pcfgs (F := F)) adm (pdats m) () cellOf_inj EP defs₀ Variants.none L lv m ρ main
    (fun _ => [.region (reg0 m), .region (reg1 m hI)])
    (fun c Q => by rw [main_segs adm (pdats m) () Variants.none L lv (reg0 m) (reg1 m hI) c])
    (fun c => by simp only [Seg.pipes_region, Seg.pipes_nil]; decide) 0 (fun _ _ => rfl) (fun _ => iprop(emp)) u₀
    (by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => state c (W0 m c)) (Tₙ := fun c => unscopedBufs c (W2 m c))
    (hch := fun c => ⟨.rfl, .rfl, .rfl⟩)
    (hinit := by
      refine Pipeline.initEach L lv fun c => ?_
      iintro ⟨⟨Hh, -, HO, -, -, -⟩, -⟩
      imodintro
      isplitl [Hh]; · iexact Hh
      iexists ∅; iexact HO)
    (QY := fun c s => ∀ b : Ref sig .tc, ¬ b.isScoped → s.mem ((c : Thread nD τ).loc b) = W2 m c b)
    (hfin := fun c s' => by
      unfold unscopedBufs
      iintro ⟨Hh, HSI⟩
      ihave Hr := (pointsTo_read_all (Finset.univ.filter fun b : Ref sig .tc => ¬ b.isScoped) (fun b => (c : Thread nD τ).loc b) (W2 m c) s') $$ [Hh HSI]
      · isplitl [Hh] <;> iassumption
      icases Hr with ⟨%h, HSI⟩
      imodintro
      isplitr
      · ipureintro; exact fun b hb => h b (Finset.mem_filter.mpr ⟨Finset.mem_univ _, hb⟩)
      iexact HSI)
    (hQ := fun _ h hz => ⟨h, funext fun g => hz g (.inr (all_scoped g.2))⟩)

/-- The arguments end as launched, the result as computed, the semaphores at zero. -/
theorem run_main (hI : Inside m) : θ_run defs (onTc (τ := τ) (main (F := F))) ⟨m, fun _ => 0, ρ⟩ (fun r =>
    (∀ c : Dev nD, r.2.mem ((c.tc : Thread nD τ).loc main_v1) = (TailRegion.dat (W1 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => ⟨(h.1 c main_v1 (by decide)).trans (W2_result m c),
    (h.1 c main_arg0 (by decide)).trans ((W2_of m c main_arg0 (by decide)).trans (W1_of m c main_arg0 (by decide) (by decide))),
    (h.1 c main_arg1 (by decide)).trans ((W2_of m c main_arg1 (by decide)).trans (W1_of m c main_arg1 (by decide) (by decide)))⟩, h.2⟩) (run m ρ hI)

end Cert.KernelIdeal.Whole

end
-- ==== Proof.Rows.lean ====
module

public import proofs.«01_k».proof.Proof.Rounds
public import Idealize.ShloMosaic.PureOps.Ideal.Laws
public import Idealize.ShloMosaic.Lib.Pointwise.Reduce
public import Idealize.ShloMosaic.Lib.ValueIdx
public import Idealize.ShloMosaic.Lib.ValueLayout
public import Idealize.ShloMosaic.Lib.ValueLayoutCasts

/-! One round of the search over extended reals, read row by row: the row's maximum is its greatest entry, and the
    column found is a column at which that entry stands. -/

@[expose] public section

noncomputable section

namespace Cert.KernelIdeal.Rounds8

open Cert.KernelIdeal Cert.KernelIdeal.Gen
open Idealize.ShloMosaic hiding ix1 ix2 eq_ix2
open Idealize.ShloMosaic.TcCoe
open Idealize.ShloMosaic.ValueIdx (ix1 ix2 eq_ix2)

/-- The indices of a rank-2 array that share row `b`, as a range of columns: a fold over them. -/
theorem fold_row {α : Type} {n m : ℕ} (h : (⟨2, ![n, m]⟩ : Shape).Reduces [1] ⟨1, ![n]⟩) (op : α → α → α)
    [Std.Commutative op] [Std.Associative op] (z : α) (v : (⟨2, ![n, m]⟩ : Shape).Idx → α) (b : Fin n) :
    (Finset.univ.filter fun i => h.drop i = ix1 b).fold op z v = Finset.univ.fold op z fun k : Fin m => v (ix2 b k) := by
  rw [Shape.Reduces.fold_fiber_r2_a1 h (ix1 b) op z v]
  refine Finset.fold_congr fun k _ => congrArg v (funext fun d => ?_)
  match d with
  | ⟨0, _⟩ => rfl
  | ⟨1, _⟩ => rfl

/-- A fold of maxima from the bottom is an upper bound and, over a nonempty range, attained. -/
theorem fold_max_spec {m : ℕ} (hm : 0 < m) (f : Fin m → EReal) :
    (∀ k, f k ≤ Finset.univ.fold max ⊥ f) ∧ ∃ k, f k = Finset.univ.fold max ⊥ f := by
  have e : Finset.univ.fold max ⊥ f = Finset.univ.sup f := rfl
  rw [e]
  refine ⟨fun k => Finset.le_sup (Finset.mem_univ k), ?_⟩
  obtain ⟨k, _, hk⟩ := Finset.exists_mem_eq_sup Finset.univ ⟨⟨0, hm⟩, Finset.mem_univ _⟩ f
  exact ⟨k, hk.symm⟩

/-- A fold of signed minima is the start or one of the entries. -/
theorem fold_minsi_mem {ι : Type} [DecidableEq ι] (S : Finset ι) (z : BitVec 32) (f : ι → BitVec 32) :
    S.fold IntOp.minsi z f = z ∨ ∃ k ∈ S, S.fold IntOp.minsi z f = f k := by
  induction S using Finset.induction_on with
  | empty => exact Or.inl rfl
  | insert a S ha ih =>
    rw [Finset.fold_insert ha]
    have h2 : ∀ x y : BitVec 32, IntOp.minsi x y = x ∨ IntOp.minsi x y = y := fun x y => by
      unfold IntOp.minsi; split
      · exact Or.inl rfl
      · exact Or.inr rfl
    rcases h2 (f a) (S.fold IntOp.minsi z f) with h | h
    · exact Or.inr ⟨a, Finset.mem_insert_self _ _, h⟩
    · rw [h]
      rcases ih with h' | ⟨k, hk, h'⟩
      · exact Or.inl h'
      · exact Or.inr ⟨k, Finset.mem_insert_of_mem hk, h'⟩

/-- … and at most every entry. -/
theorem fold_minsi_le {ι : Type} [DecidableEq ι] (S : Finset ι) (z : BitVec 32) (f : ι → BitVec 32) :
    ∀ k ∈ S, (S.fold IntOp.minsi z f).toInt ≤ (f k).toInt := by
  induction S using Finset.induction_on with
  | empty => intro k hk; exact absurd hk (Finset.notMem_empty k)
  | insert a S ha ih =>
    intro k hk
    rw [Finset.fold_insert ha]
    have h2 : ∀ x y : BitVec 32, (IntOp.minsi x y).toInt ≤ x.toInt ∧ (IntOp.minsi x y).toInt ≤ y.toInt := fun x y => by
      unfold IntOp.minsi
      simp only [BitVec.slt, decide_eq_true_eq]
      split <;> constructor <;> omega
    rcases Finset.mem_insert.1 hk with rfl | hk
    · exact (h2 _ _).1
    · exact (h2 _ _).2.trans (ih k hk)

/-- Minus infinity's pattern is the bottom. -/
theorem negInf_eq : Ideal.ofBits .f32 0xFF800000#32 = ⊥ := by
  simp [Ideal.ofBits, Ideal.ieee]

theorem rowMax_eq (cur : FVec Ideal S4x8192 .f32) (b : Fin 4) (u : Fin 1) :
    rowMax cur (ix2 b u) = Finset.univ.fold max ⊥ fun k : Fin 8192 => (cur (ix2 b k) : EReal) := by
  unfold rowMax
  refine (ValueIdx.shapeCast_a_a1_apply _ shapeCasts_S4_S4x1 b u).trans ?_
  refine (multiReduction_maximumf_eq_fold (F := Ideal) cur _ reduces_S4x8192_S4 (.inl rfl) rfl (ix1 b)).trans ?_
  refine (fold_row reduces_S4x8192_S4 _ _ cur b).trans ?_
  show Finset.univ.fold max (Ideal.ofBits .f32 0xFF800000#32) (fun k : Fin 8192 => (cur (ix2 b k) : EReal)) = _
  rw [negInf_eq]

/-- The greatest entry of row `b`: no entry exceeds it and one equals it. -/
theorem rowMax_spec (cur : FVec Ideal S4x8192 .f32) (b : Fin 4) (u : Fin 1) :
    (∀ k : Fin 8192, (cur (ix2 b k) : EReal) ≤ rowMax cur (ix2 b u))
      ∧ ∃ k : Fin 8192, (cur (ix2 b k) : EReal) = rowMax cur (ix2 b u) := by
  rw [rowMax_eq]
  exact fold_max_spec (by norm_num) _

/-- A column of the rank-2 block broadcast along the rows. -/
theorem broadcastTo_col {α : Type} {n m : ℕ} (v : (⟨2, ![n, 1]⟩ : Shape).Idx → α)
    (h : (⟨2, ![n, 1]⟩ : Shape).Broadcasts ⟨2, ![n, m]⟩) (p : Fin n) (c : Fin m) :
    broadcastTo ⟨2, ![n, m]⟩ v h (ix2 p c) = v (ix2 p (0 : Fin 1)) := by
  refine broadcastTo_apply v h (ix2 p c) (ix2 p (0 : Fin 1)) fun ax => ?_
  match ax with
  | ⟨0, _⟩ =>
    show p.val = if n = 1 then 0 else p.val
    split
    · have := p.isLt; omega
    · rfl
  | ⟨1, _⟩ => rfl

theorem cols_apply (b : Fin 4) (k : Fin 8192) : cols (ix2 b k) = BitVec.ofNat 32 k.val := iota_single_apply _ _ _ _ _ _

theorem lanes_apply (b : Fin 4) (k : Fin 128) : lanes (ix2 b k) = BitVec.ofNat 32 k.val := iota_single_apply _ _ _ _ _ _

/-- The column found in row `b` is a column at which the row's greatest entry stands. -/
theorem rowArg_spec (cur : FVec Ideal S4x8192 .f32) (b : Fin 4) (u : Fin 1) :
    ∃ k : Fin 8192, rowArg cur (ix2 b u) = BitVec.ofNat 32 k.val
      ∧ (cur (ix2 b k) : EReal) = rowMax cur (ix2 b (0 : Fin 1)) := by
  obtain ⟨_, k0, hk0⟩ := rowMax_spec cur b 0
  let f : Fin 8192 → BitVec 32 := fun k => if (cur (ix2 b k) : EReal) = rowMax cur (ix2 b (0 : Fin 1)) then BitVec.ofNat 32 k.val else 8192#32
  have e : rowArg cur (ix2 b u) = Finset.univ.fold IntOp.minsi 2147483647#32 f := by
    unfold rowArg
    refine (ValueIdx.shapeCast_a_a1_apply _ shapeCasts_S4_S4x1 b u).trans ?_
    refine (multiReductionI_eq_fold .minsi _ _ reduces_S4x8192_S4 rfl (ix1 b)).trans ?_
    refine (fold_row reduces_S4x8192_S4 IntOp.minsi _ _ b).trans ?_
    refine Finset.fold_congr fun k _ => ?_
    show Scalar.select (Ideal.cmp .oeq (cur (ix2 b k)) (broadcastTo S4x8192 (rowMax cur) broadcasts_S4x1_S4x8192 (ix2 b k)))
      (cols (ix2 b k)) (8192#32) = f k
    rw [show broadcastTo S4x8192 (rowMax cur) broadcasts_S4x1_S4x8192 (ix2 b k) = rowMax cur (ix2 b (0 : Fin 1)) from
      broadcastTo_col (rowMax cur) broadcasts_S4x1_S4x8192 b k, cols_apply]
    by_cases hk : (cur (ix2 b k) : EReal) = rowMax cur (ix2 b (0 : Fin 1))
    · simp [f, hk, Ideal.cmp, Scalar.select]
    · simp [f, hk, Ideal.cmp, Scalar.select]
  rw [e]
  have hle := fold_minsi_le Finset.univ 2147483647#32 f k0 (Finset.mem_univ _)
  have hf0 : f k0 = BitVec.ofNat 32 k0.val := if_pos hk0
  have hi : ∀ k : Fin 8192, (BitVec.ofNat 32 k.val).toInt = (k.val : ℤ) := fun k => by
    have := k.isLt
    rw [BitVec.toInt_eq_toNat_of_lt (by simp; omega), BitVec.toNat_ofNat, Nat.mod_eq_of_lt (by omega)]
  rw [hf0, hi] at hle
  have hlt := k0.isLt
  rcases fold_minsi_mem Finset.univ 2147483647#32 f with h | ⟨k, _, h⟩
  · rw [h] at hle
    have : (2147483647#32 : BitVec 32).toInt = 2147483647 := by decide
    omega
  · by_cases hk : (cur (ix2 b k) : EReal) = rowMax cur (ix2 b (0 : Fin 1))
    · exact ⟨k, h.trans (if_pos hk), hk⟩
    · rw [h, show f k = 8192#32 from if_neg hk] at hle
      have : (8192#32 : BitVec 32).toInt = 8192 := by decide
      omega

/-- Lane `k` of the columns found: after `n` rounds, zero for a lane no round has reached. -/
theorem idxLanes_apply (e : Vec Ideal S4x8192 .f32) (b : Fin 4) (k : Fin 128) (n : ℕ) (hn : n ≤ 128) :
    idxLanes e n (ix2 b k) = if k.val < n then rowArg (after e k.val) (ix2 b (0 : Fin 1)) else 0#32 := by
  induction n with
  | zero => rfl
  | succ n ih =>
    show Scalar.select (IntOp.cmpi .eq (lanes (ix2 b k)) (BitVec.ofNat 32 n))
      (broadcastTo S4x128 (shapeCast S4x1 (rowArg (after e n)) shapeCasts_S4x1_S4x1) broadcasts_S4x1_S4x128 (ix2 b k))
      (idxLanes e n (ix2 b k)) = _
    rw [show broadcastTo S4x128 (shapeCast S4x1 (rowArg (after e n)) shapeCasts_S4x1_S4x1) broadcasts_S4x1_S4x128 (ix2 b k)
        = shapeCast S4x1 (rowArg (after e n)) shapeCasts_S4x1_S4x1 (ix2 b (0 : Fin 1)) from broadcastTo_col _ _ b k,
      shapeCast_self, ih (by omega), lanes_apply]
    have hkl := k.isLt
    by_cases h : k.val = n
    · subst h; simp [Scalar.select, IntOp.cmpi]
    · have hne : ¬ BitVec.ofNat 32 k.val = BitVec.ofNat 32 n := fun hh => h (by
        have := congrArg BitVec.toNat hh
        simpa [BitVec.toNat_ofNat, Nat.mod_eq_of_lt (show k.val < 4294967296 by omega),
          Nat.mod_eq_of_lt (show n < 4294967296 by omega)] using this)
      have hc : ¬ IntOp.cmpi .eq (BitVec.ofNat 32 k.val) (BitVec.ofNat 32 n) = 1#1 := fun hh => hne (by
        by_contra hx
        have h0 : IntOp.cmpi .eq (BitVec.ofNat 32 k.val) (BitVec.ofNat 32 n) = 0#1 := by
          unfold IntOp.cmpi; rw [beq_eq_false_iff_ne.2 hx]; rfl
        rw [h0] at hh
        exact absurd hh (by decide))
      by_cases h' : k.val < n
      · rw [if_pos h', if_pos (show k.val < n + 1 by omega)]; exact if_neg hc
      · rw [if_neg h', if_neg (show ¬ k.val < n + 1 by omega)]; exact if_neg hc

/-- Lane `k` of the values found. -/
theorem valLanes_apply (e : Vec Ideal S4x8192 .f32) (b : Fin 4) (k : Fin 128) (n : ℕ) (hn : n ≤ 128) :
    valLanes e n (ix2 b k) = if k.val < n then rowMax (after e k.val) (ix2 b (0 : Fin 1)) else low := by
  induction n with
  | zero => rfl
  | succ n ih =>
    show Scalar.select (IntOp.cmpi .eq (lanes (ix2 b k)) (BitVec.ofNat 32 n))
      (broadcastTo S4x128 (shapeCast S4x1 (rowMax (after e n)) shapeCasts_S4x1_S4x1) broadcasts_S4x1_S4x128 (ix2 b k))
      (valLanes e n (ix2 b k)) = _
    rw [show broadcastTo S4x128 (shapeCast S4x1 (rowMax (after e n)) shapeCasts_S4x1_S4x1) broadcasts_S4x1_S4x128 (ix2 b k)
        = shapeCast S4x1 (rowMax (after e n)) shapeCasts_S4x1_S4x1 (ix2 b (0 : Fin 1)) from broadcastTo_col _ _ b k,
      shapeCast_self, ih (by omega), lanes_apply]
    have hkl := k.isLt
    by_cases h : k.val = n
    · subst h; simp [Scalar.select, IntOp.cmpi]
    · have hne : ¬ BitVec.ofNat 32 k.val = BitVec.ofNat 32 n := fun hh => h (by
        have := congrArg BitVec.toNat hh
        simpa [BitVec.toNat_ofNat, Nat.mod_eq_of_lt (show k.val < 4294967296 by omega),
          Nat.mod_eq_of_lt (show n < 4294967296 by omega)] using this)
      have hc : ¬ IntOp.cmpi .eq (BitVec.ofNat 32 k.val) (BitVec.ofNat 32 n) = 1#1 := fun hh => hne (by
        by_contra hx
        have h0 : IntOp.cmpi .eq (BitVec.ofNat 32 k.val) (BitVec.ofNat 32 n) = 0#1 := by
          unfold IntOp.cmpi; rw [beq_eq_false_iff_ne.2 hx]; rfl
        rw [h0] at hh
        exact absurd hh (by decide))
      by_cases h' : k.val < n
      · rw [if_pos h', if_pos (show k.val < n + 1 by omega)]; exact if_neg hc
      · rw [if_neg h', if_neg (show ¬ k.val < n + 1 by omega)]; exact if_neg hc

/-- Every stored column is a column of the input. -/
theorem idxAll_lt (e : Vec Ideal S4x8192 .f32) (j : S4x128.Idx) : (idxAll e j).toNat < 8192 := by
  obtain ⟨b, k, rfl⟩ : ∃ (b : Fin 4) (k : Fin 128), j = ix2 b k := ⟨j 0, j 1, eq_ix2 j⟩
  rw [idxAll_eq, shapeCast_self, idxLanes_apply e b k 8 (by norm_num)]
  split
  · obtain ⟨i, hk, _⟩ := rowArg_spec (after e k.val) b 0
    have := i.isLt
    rw [hk, BitVec.toNat_ofNat, Nat.mod_eq_of_lt (by omega)]
    exact this
  · exact (by norm_num : (0 : ℕ) < 8192)

end Cert.KernelIdeal.Rounds8
-- ==== Proof.Frames.lean ====
module

public import proofs.«01_k».proof.Defs
public import proofs.«01_k».proof.Proof.KernelRun
public import proofs.«01_k».proof.Proof.Rows
public import proofs.«01_k».proof.Proof.Gen.ReferenceIdeal
public import proofs.«01_k».proof.Proof.Gen.ReferenceIdeal.Run
public import Idealize.ShloMosaic.Lib.Quiescent

/-! The frames over extended reals: each program runs to its end, leaves its arguments as they were and every counter
at zero. -/

@[expose] public section

noncomputable section

namespace Cert.Proof

open Idealize.ShloMosaic Idealize.ShloMosaic.TcCoe Idealize.SL.Sem

/-- Over extended reals the positions the second call selects lie inside the input. -/
theorem inside (m : (ℓ : Loc Cert.KernelIdeal.nD Cert.KernelIdeal.τ Cert.KernelIdeal.sig) → Buf (Elt Ideal) ℓ) :
    Cert.KernelIdeal.Whole.Inside (F := Ideal) m :=
  fun _ _ j => Cert.KernelIdeal.Rounds8.idxAll_lt _ j

/-- The kernel's frame, from any memory. -/
theorem kernel_frame (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal)))
      ⟨m, fun _ => 0, g⟩ (fun r => (∀ c : Dev Cert.KernelIdeal.nD,
        r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
          = m ((c.tc : Thread Cert.KernelIdeal.nD Cert.KernelIdeal.τ).loc Cert.KernelIdeal.main_arg1))
        ∧ r.2.sem = fun _ => 0) :=
  (θ_run Cert.KernelIdeal.defs _ _).mono (fun _ h => ⟨fun c => (h.1 c).2, h.2⟩)
    (Cert.KernelIdeal.Whole.run_main (F := Ideal) m g (inside m))

/-- The reference's frame, from any memory. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1))
        ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m g)

end Cert.Proof
-- ==== Proof.Top.lean ====
module

public import Idealize.ShloMosaic.PureOps.Ideal

@[expose] public section

/-! # The entries of a row that reach its fifth largest

A finite family `e` of extended reals, and the two ways of finding its fifth largest entry: taking the largest entry
five times over, each taken entry overwritten by a value below the whole family; and reading place 4 of the family in
descending order. Nothing here mentions a program. -/

namespace Cert.Proof.Top

open Finset

variable {N : ℕ}

/-- The gated entry: the entry where it reaches `t`, zero elsewhere. -/
noncomputable def gated (r : Fin N → ℝ) (t : ℝ) (j : Fin N) : ℝ := if t ≤ r j then r j else 0

/-- `t` stands fifth in the descending order of `e`: at most four entries lie above it, at least five reach it. -/
def IsFifth (e : Fin N → EReal) (t : EReal) : Prop :=
  (univ.filter (fun j => t < e j)).card ≤ 4 ∧ 5 ≤ (univ.filter (fun j => t ≤ e j)).card

theorem IsFifth.unique {e : Fin N → EReal} {s t : EReal} (hs : IsFifth e s) (ht : IsFifth e t) : s = t := by
  have one : ∀ {a b : EReal}, IsFifth e a → IsFifth e b → ¬ a < b := by
    intro a b ha hb hab
    have hsub : univ.filter (fun j => b ≤ e j) ⊆ univ.filter (fun j => a < e j) := by
      intro j hj
      simp only [mem_filter, mem_univ, true_and] at hj ⊢
      exact lt_of_lt_of_le hab hj
    have := card_le_card hsub
    have := ha.1
    have := hb.2
    omega
  exact le_antisymm (not_lt.mp (one ht hs)) (not_lt.mp (one hs ht))

/-- Place 4 of a family listed in descending order stands fifth. -/
theorem isFifth_of_order (e : Fin N → EReal) (h5 : 4 < N) (σ : Fin N → Fin N) (hinj : Function.Injective σ)
    (hsurj : Function.Surjective σ) (hdesc : ∀ i j : Fin N, i < j → ¬ e (σ i) < e (σ j)) :
    IsFifth e (e (σ ⟨4, h5⟩)) := by
  constructor
  · have hsub : univ.filter (fun j => e (σ ⟨4, h5⟩) < e j)
        ⊆ (range 4).attach.image (fun k => σ ⟨k.1, by have := mem_range.mp k.2; omega⟩) := by
      intro j hj
      simp only [mem_filter, mem_univ, true_and] at hj
      obtain ⟨i, rfl⟩ := hsurj j
      have hi : i.val < 4 := by
        by_contra hge
        rcases Nat.lt_or_ge 4 i.val with h | h
        · exact hdesc ⟨4, h5⟩ i h hj
        · have : i = ⟨4, h5⟩ := Fin.ext (by simp only; omega)
          subst this
          exact lt_irrefl _ hj
      exact mem_image.mpr ⟨⟨i.val, mem_range.mpr hi⟩, mem_attach _ _, rfl⟩
    refine (card_le_card hsub).trans (card_image_le.trans ?_)
    simp
  · have hsub : (range 5).attach.image (fun k => σ ⟨k.1, by have := mem_range.mp k.2; omega⟩)
        ⊆ univ.filter (fun j => e (σ ⟨4, h5⟩) ≤ e j) := by
      intro j hj
      obtain ⟨k, -, rfl⟩ := mem_image.mp hj
      have hk := mem_range.mp k.2
      simp only [mem_filter, mem_univ, true_and]
      rcases Nat.lt_or_ge k.1 4 with h | h
      · exact not_lt.mp (hdesc _ _ h)
      · have : (⟨k.1, by omega⟩ : Fin N) = ⟨4, h5⟩ := Fin.ext (by simp only; omega)
        rw [this]
    refine le_trans ?_ (card_le_card hsub)
    rw [card_image_of_injective]
    · simp
    · intro a b hab
      have := hinj hab
      exact Subtype.ext (Fin.mk.inj this)

/-- A run of `n` picks: the family is `e` at the start, each step picks a place holding the largest entry of what is
    left and overwrites it by `low`, which lies below all of `e`. -/
structure Picks (e : Fin N → EReal) (low : EReal) (n : ℕ) (cur : ℕ → Fin N → EReal) (pick : ℕ → Fin N) : Prop where
  small : n ≤ N
  above : ∀ j, low < e j
  start : cur 0 = e
  step : ∀ k, k < n → ∀ j, cur (k + 1) j = if j = pick k then low else cur k j
  largest : ∀ k, k < n → ∀ j, cur k j ≤ cur k (pick k)

namespace Picks

variable {e : Fin N → EReal} {low : EReal} {n : ℕ} {cur : ℕ → Fin N → EReal} {pick : ℕ → Fin N}

theorem cur_eq (P : Picks e low n cur pick) : ∀ k, k ≤ n → ∀ j,
    cur k j = if j ∈ (range k).image pick then low else e j := by
  intro k
  induction k with
  | zero => intro _ j; simp [P.start]
  | succ k ih =>
    intro hk j
    rw [P.step k (by omega) j, ih (by omega) j, range_add_one, image_insert]
    by_cases h : j = pick k
    · simp [h]
    · simp [h]

/-- What a step picks has not been picked before. -/
theorem fresh (P : Picks e low n cur pick) (k : ℕ) (hk : k < n) : pick k ∉ (range k).image pick := by
  intro hin
  have hcard : ((range k).image pick).card < (univ : Finset (Fin N)).card := by
    refine lt_of_le_of_lt card_image_le ?_
    have := P.small
    simp only [card_range, card_univ, Fintype.card_fin]
    omega
  obtain ⟨j, -, hj⟩ := exists_mem_notMem_of_card_lt_card hcard
  have h := P.largest k hk j
  rw [P.cur_eq k hk.le, P.cur_eq k hk.le, if_neg hj, if_pos hin] at h
  exact absurd (P.above j) (not_lt.mpr h)

/-- A picked entry is the family's own, and no entry left over exceeds it. -/
theorem cur_pick (P : Picks e low n cur pick) (k : ℕ) (hk : k < n) : cur k (pick k) = e (pick k) := by
  rw [P.cur_eq k hk.le, if_neg (P.fresh k hk)]

theorem le_pick (P : Picks e low n cur pick) (k : ℕ) (hk : k < n) (j : Fin N) (hj : j ∉ (range k).image pick) :
    e j ≤ e (pick k) := by
  have h := P.largest k hk j
  rwa [P.cur_pick k hk, P.cur_eq k hk.le, if_neg hj] at h

theorem ne (P : Picks e low n cur pick) {a b : ℕ} (hab : a < b) (hb : b < n) : pick a ≠ pick b := fun h =>
  P.fresh b hb (mem_image.mpr ⟨a, mem_range.mpr hab, h⟩)

theorem injOn (P : Picks e low n cur pick) : Set.InjOn pick (range n : Finset ℕ) := by
  intro a ha b hb hab
  have ha := mem_range.mp (mem_coe.mp ha)
  have hb := mem_range.mp (mem_coe.mp hb)
  rcases Nat.lt_trichotomy a b with h | h | h
  · exact absurd hab (P.ne h hb)
  · exact h
  · exact absurd hab.symm (P.ne h ha)

theorem mono (P : Picks e low n cur pick) {a b : ℕ} (hab : a ≤ b) (hb : b < n) : e (pick b) ≤ e (pick a) := by
  refine P.le_pick a (by omega) _ fun hin => ?_
  obtain ⟨c, hc, h⟩ := mem_image.mp hin
  exact P.ne (lt_of_lt_of_le (mem_range.mp hc) hab) hb h

/-- The fifth picked entry stands fifth. -/
theorem isFifth (P : Picks e low n cur pick) (h5 : 4 < n) : IsFifth e (e (pick 4)) := by
  constructor
  · have hsub : univ.filter (fun j => e (pick 4) < e j) ⊆ (range 4).image pick := by
      intro j hj
      simp only [mem_filter, mem_univ, true_and] at hj
      by_contra hn
      exact absurd hj (not_lt.mpr (P.le_pick 4 h5 j hn))
    exact (card_le_card hsub).trans (card_image_le.trans (by simp))
  · have hsub : (range 5).image pick ⊆ univ.filter (fun j => e (pick 4) ≤ e j) := by
      intro j hj
      obtain ⟨k, hk, rfl⟩ := mem_image.mp hj
      simp only [mem_filter, mem_univ, true_and]
      exact P.mono (by have := mem_range.mp hk; omega) h5
    refine le_trans (le_of_eq ?_) (card_le_card hsub)
    rw [card_image_of_injOn (P.injOn.mono fun a ha => ?_)]
    · simp
    · have := mem_range.mp (mem_coe.mp ha)
      exact mem_coe.mpr (mem_range.mpr (by omega))

/-- When few entries reach the fifth, or the fifth is zero, every entry which reaches the fifth and is not zero has been
    picked. -/
theorem picked (P : Picks e low n cur pick) (h5 : 4 < n) (t : EReal) (ht : IsFifth e t)
    (few : (univ.filter (fun j => t ≤ e j)).card ≤ n ∨ t = 0) (j : Fin N) (hj : t ≤ e j) (h0 : e j ≠ 0) :
    j ∈ (range n).image pick := by
  have ht4 : t = e (pick 4) := ht.unique (P.isFifth h5)
  by_contra hn
  rcases few with few | rfl
  · have hsub : insert j ((range n).image pick) ⊆ univ.filter (fun j => t ≤ e j) := by
      intro i hi
      simp only [mem_filter, mem_univ, true_and]
      rcases mem_insert.mp hi with rfl | hi
      · exact hj
      · obtain ⟨k, hk, rfl⟩ := mem_image.mp hi
        have hk := mem_range.mp hk
        refine hj.trans (P.le_pick k hk j fun hin => hn ?_)
        obtain ⟨c, hc, h⟩ := mem_image.mp hin
        have hc := mem_range.mp hc
        exact mem_image.mpr ⟨c, mem_range.mpr (by omega), h⟩
    have h := card_le_card hsub
    rw [card_insert_of_notMem hn, card_image_of_injOn P.injOn, card_range] at h
    omega
  · have hpos : 0 < e j := lt_of_le_of_ne hj (Ne.symm h0)
    refine absurd (P.le_pick 4 h5 j fun hin => hn ?_) (not_le.mpr (ht4 ▸ hpos))
    obtain ⟨c, hc, h⟩ := mem_image.mp hin
    have hc := mem_range.mp hc
    exact mem_image.mpr ⟨c, mem_range.mpr (by omega), h⟩

/-- A sum over the family of terms that vanish off the picked places is the sum over the picks. -/
theorem sum_eq (P : Picks e low n cur pick) (f : Fin N → ℝ) (hf : ∀ j, f j ≠ 0 → j ∈ (range n).image pick) :
    ∑ j, f j = ∑ k ∈ range n, f (pick k) := by
  rw [← sum_image (f := f) P.injOn]
  refine (sum_subset (subset_univ _) fun j _ hj => ?_).symm
  by_contra h
  exact hj (hf j h)

end Picks

end Cert.Proof.Top
-- ==== Proof.Scores.lean ====
module

public import proofs.«01_k».proof.Proof.Top
public import Idealize.ShloMosaic.PureOps.Ideal.Laws
public import Idealize.ShloMosaic.Lib.SortFacts
public import Idealize.ShloMosaic.Lib.IdealHost
public import Idealize.ShloMosaic.Lib.Pipeline.Value
public import Idealize.ShloMosaic.Lib.ValueIdx
public import Idealize.ShloMosaic.Lib.ValueLayout
public import Idealize.ShloMosaic.Lib.ValueLayoutCasts

/-! The scores of the rows over extended reals, as the host operations compute them: `tanh` of the product of a row with
    the weight column, a real number of absolute value at most one; and the fifth value of the host's top five. -/

@[expose] public section

noncomputable section

namespace Cert.Proof.Scores

open Idealize.ShloMosaic
open Idealize.ShloMosaic.ValueIdx
open Finset

abbrev SX : Shape := ⟨3, ![4, 8192, 768]⟩
abbrev SW : Shape := ⟨2, ![768, 1]⟩
abbrev SC : Shape := ⟨3, ![4, 8192, 1]⟩
abbrev SE : Shape := ⟨2, ![4, 8192]⟩

/-- The product of row `(b, j)` with the weight column. -/
def product (X : SX.Idx → EReal) (W : SW.Idx → EReal) (b : Fin 4) (j : Fin 8192) : EReal :=
  ∑ k : Fin 768, X (ix3 b j k) * W (ix2 k (0 : Fin 1))

/-- The score of row `(b, j)`. -/
def score (X : SX.Idx → EReal) (W : SW.Idx → EReal) (b : Fin 4) (j : Fin 8192) : ℝ := (Ideal.tanh (product X W b j)).toReal

theorem tanh_real (z : EReal) : ∃ r : ℝ, Ideal.tanh z = (r : EReal) ∧ -1 ≤ r ∧ r ≤ 1 := by
  induction z with
  | bot => exact ⟨-1, rfl, le_refl _, by norm_num⟩
  | top => exact ⟨1, rfl, by norm_num, le_refl _⟩
  | coe x => exact ⟨Real.tanh x, rfl, (Real.neg_one_lt_tanh x).le, (Real.tanh_lt_one x).le⟩

theorem tanh_eq (X : SX.Idx → EReal) (W : SW.Idx → EReal) (b : Fin 4) (j : Fin 8192) :
    Ideal.tanh (product X W b j) = ((score X W b j : ℝ) : EReal) := by
  obtain ⟨r, hr, -⟩ := tanh_real (product X W b j)
  unfold score
  rw [hr, EReal.toReal_coe]

theorem score_low (X : SX.Idx → EReal) (W : SW.Idx → EReal) (b : Fin 4) (j : Fin 8192) : -2 < score X W b j := by
  obtain ⟨r, hr, h, -⟩ := tanh_real (product X W b j)
  unfold score
  rw [hr, EReal.toReal_coe]
  linarith

/-- The host's scores. -/
theorem host_score (wf : DotDims.WF SX SW SC [2] [0] [0, 1] [1] [] []) (X : FVec Ideal SX .f32) (W : FVec Ideal SW .f32)
    (h : SC.ShapeCasts SE) (b : Fin 4) (j : Fin 8192) :
    (shapeCast SE (Host.tanh (Host.dotGeneral ⟨[2], [0], [0, 1], [1], [], [], wf⟩ none X W)) h (ix2 b j) : EReal)
      = ((score X W b j : ℝ) : EReal) := by
  rw [← tanh_eq]
  refine (shapeCast_apply _ h (ix2 b j) (ix3 b j (0 : Fin 1)) ?_).trans ?_
  · rw [Shape.rowMajor_val_three, Shape.rowMajor_val_two]
    show (b.val * 8192 + j.val) * 1 + 0 = b.val * 8192 + j.val
    omega
  show Ideal.tanh (FloatOps.dotGeneral _ none _ X W (ix3 b j (0 : Fin 1))) = _
  congr 1
  let D : DotDims SX SW SC := ⟨[2], [0], [0, 1], [1], [], [], wf⟩
  rw [Ideal.dotGeneral_apply, ← Equiv.sum_comp (contrEquiv1 D 768 rfl rfl).symm]
  refine Finset.sum_congr rfl fun k _ => ?_
  have hk := contrEquiv1_symm_val D 768 rfl rfl k
  have el : D.lhsIdx (ix3 b j (0 : Fin 1)) ((contrEquiv1 D 768 rfl rfl).symm k) = ix3 b j k := by
    funext a; apply Fin.ext
    match a with
    | ⟨0, _⟩ => rfl
    | ⟨1, _⟩ => rfl
    | ⟨2, _⟩ => exact hk
  have er : D.rhsIdx (ix3 b j (0 : Fin 1)) ((contrEquiv1 D 768 rfl rfl).symm k) = ix2 k (0 : Fin 1) := by
    funext a; apply Fin.ext
    match a with
    | ⟨0, _⟩ => exact hk
    | ⟨1, _⟩ => rfl
  rw [el, er]

/-- The fifth of the host's five largest stands fifth in its row. -/
theorem host_fifth (v : FVec Ideal SE .f32) (h : SE.Slices (fun _ => 0) ⟨2, ![4, 5]⟩)
    (h' : (⟨2, ![4, 5]⟩ : Shape).Slices ![0, 4] ⟨2, ![4, 1]⟩) (b : Fin 4) (u : Fin 1) :
    Top.IsFifth (fun j : Fin 8192 => (v (ix2 b j) : EReal))
      (extractStridedSlice ⟨2, ![4, 1]⟩ ![0, 4] (Host.topK ⟨2, ![4, 5]⟩ 1 (FloatOps.cmpfTotal .gt) v h).1 h' (ix2 b u)) := by
  let before : Fin 8192 → Fin 8192 → Bool := fun k k' => Ideal.cmp .ogt (v (ix2 b k)) (v (ix2 b k')) == 1#1
  have hb : ∀ k k', before k k' = decide ((v (ix2 b k') : EReal) < v (ix2 b k)) := by
    intro k k'
    by_cases hlt : (v (ix2 b k') : EReal) < v (ix2 b k)
    · simp [before, Ideal.cmp, hlt]
    · simp [before, Ideal.cmp, hlt]
  have e : (extractStridedSlice ⟨2, ![4, 1]⟩ ![0, 4] (Host.topK ⟨2, ![4, 5]⟩ 1 (FloatOps.cmpfTotal .gt) v h).1 h' (ix2 b u) : EReal)
      = v (ix2 b (sortedFrom before ⟨4, by norm_num⟩)) := by
    refine (extractStridedSlice_apply _ _ h' (ix2 b u) (ix2 b (4 : Fin 5)) fun a => ?_).trans ?_
    · match a with
      | ⟨0, _⟩ => show b.val = 0 + b.val; omega
      | ⟨1, _⟩ => show 4 = 4 + u.val; have := u.isLt; omega
    show ((extractStridedSlice ⟨2, ![4, 5]⟩ (fun _ => 0) (Host.sort2 SE 1
      (fun l r : Ideal .f32 × BitVec 32 => FloatOps.cmpfTotal .gt l.1 r.1) v
      (fun i => if hd : 1 < SE.rank then iotaInDim SE 32 ⟨1, hd⟩ i else 0#32)).1 h : FVec Ideal ⟨2, ![4, 5]⟩ .f32)
        (ix2 b (4 : Fin 5)) : EReal) = _
    refine (extractStridedSlice_apply _ _ h (ix2 b (4 : Fin 5)) (ix2 b (⟨4, by norm_num⟩ : Fin 8192)) fun a => ?_).trans ?_
    · match a with
      | ⟨0, _⟩ => show b.val = 0 + b.val; omega
      | ⟨1, _⟩ => rfl
    have along : (fun k : Fin 8192 => Shape.Idx.along (s := SE) (ix2 b (⟨4, by norm_num⟩ : Fin 8192)) (1 : Fin 2) k)
        = fun k => ix2 b k := by
      funext k a
      match a with
      | ⟨0, _⟩ => rfl
      | ⟨1, _⟩ => rfl
    show (fun a : Fin 8192 → SE.Idx => v (a (sortedFrom (fun k k' => Ideal.cmp .ogt (v (a k)) (v (a k')) == 1#1) ⟨4, by norm_num⟩)))
      (fun k : Fin 8192 => Shape.Idx.along (s := SE) (ix2 b (⟨4, by norm_num⟩ : Fin 8192)) (1 : Fin 2) k) = _
    rw [along]
  rw [e]
  refine Top.isFifth_of_order (fun j : Fin 8192 => (v (ix2 b j) : EReal)) (by norm_num) (sortedFrom before) (sortedFrom_injective _) (sortedFrom_surjective _) ?_
  intro i j hij
  have hno := sortedFrom_noInversion before before ?_ (fun _ _ h => h) ?_ i j hij
  · rw [hb] at hno
    exact of_decide_eq_false hno
  · intro a c hac
    rw [hb] at hac ⊢
    exact decide_eq_false (not_lt.2 (of_decide_eq_true hac).le)
  · intro a c d hac hcd
    rw [hb] at hac hcd ⊢
    exact decide_eq_false (not_lt.2 ((not_lt.1 (of_decide_eq_false hac)).trans (not_lt.1 (of_decide_eq_false hcd))))

end Cert.Proof.Scores

end
-- ==== Proof.Condition.lean ====
module

public import proofs.«01_k».proof.Pre_finite_with_few_ties
public import proofs.«01_k».proof.Proof.Scores
public import Idealize.ShloMosaic.Lib.IndicatorCount
public import Idealize.ShloMosaic.Lib.Pointwise.Reduce

/-! The precondition over extended reals, read back: the input is real at every index, and in every row at most eight
    scores reach the one that stands fifth, unless that one is zero. -/

@[expose] public section

noncomputable section

namespace Cert.Proof.Condition

open Cert.Pre_finite_with_few_ties
open Idealize.ShloMosaic hiding ix1 ix2 ix3 eq_ix2 eq_ix3
open Idealize.ShloMosaic.ValueIdx (ix1 ix2 ix3 eq_ix2 eq_ix3)
open Cert.Proof.Scores
open Finset

/-- The side conditions of the precondition's operations. -/
instance facts : Facts where
  shapeCasts_S4x8192x1_S4x8192 := by decide
  sliceFits_S4x8192_S4x5 := by decide
  slices_S4x5_S4x1_0_4 := by decide
  shapeCasts_S4x1_S4 := by decide
  bcast_S4_S4x1_0 := by decide
  bcast_S4x1_S4x8192_0_1 := by decide
  natLt_1_32 := by decide
  reducesTo_S4x8192_S4_d1 := by decide
  h_S_ := by decide
  bcast_S_S4x8192x768 := by decide
  bcast_S_S4 := by decide
  dot_S4x8192x768_S768x1_S4x8192x1_2_0_01_1_n_n_wf := by decide

/-- The scores of the precondition. -/
def e (X : FVec Ideal SX .f32) (W : FVec Ideal SW .f32) : FVec Ideal SE .f32 :=
  shapeCast S4x8192 (Host.tanh (Host.dotGeneral dot_S4x8192x768_S768x1_S4x8192x1_2_0_01_1_n_n none X W)) Facts.shapeCasts_S4x8192x1_S4x8192

/-- The fifth value of each row. -/
def fifth (v : FVec Ideal SE .f32) : FVec Ideal S4x1 .f32 :=
  extractStridedSlice S4x1 ![0, 4] (Host.topK S4x5 1 (FloatOps.cmpfTotal .gt) v Facts.sliceFits_S4x8192_S4x5).1 Facts.slices_S4x5_S4x1_0_4

/-- Where a score reaches the fifth value. -/
def reach (v : FVec Ideal SE .f32) : IVec SE 1 :=
  cmpf .oge v (broadcastInDim S4x8192 ![0, 1] Facts.bcast_S4x1_S4x8192_0_1
    (broadcastInDim S4x1 ![0] Facts.bcast_S4_S4x1_0 (shapeCast S4 (fifth v) Facts.shapeCasts_S4x1_S4)))

theorem e_apply (X : FVec Ideal SX .f32) (W : FVec Ideal SW .f32) (b : Fin 4) (j : Fin 8192) :
    (e X W (ix2 b j) : EReal) = ((score X W b j : ℝ) : EReal) := host_score _ X W _ b j

theorem fifth_flat (v : FVec Ideal SE .f32) (b : Fin 4) :
    shapeCast S4 (fifth v) Facts.shapeCasts_S4x1_S4 (ix1 b) = fifth v (ix2 b (0 : Fin 1)) := by
  refine shapeCast_apply _ _ _ _ ?_
  rw [Shape.rowMajor_val_two, Shape.rowMajor_val_one]
  show b.val * 1 + 0 = b.val
  omega

theorem reach_apply (v : FVec Ideal SE .f32) (b : Fin 4) (j : Fin 8192) :
    reach v (ix2 b j) = Ideal.cmp .oge (v (ix2 b j)) (fifth v (ix2 b (0 : Fin 1))) := by
  show Ideal.cmp .oge (v (ix2 b j)) (broadcastInDim S4x8192 ![0, 1] Facts.bcast_S4x1_S4x8192_0_1
    (broadcastInDim S4x1 ![0] Facts.bcast_S4_S4x1_0 (shapeCast S4 (fifth v) Facts.shapeCasts_S4x1_S4)) (ix2 b j)) = _
  refine congrArg (Ideal.cmp .oge (v (ix2 b j))) ?_
  refine (broadcastInDim_apply _ _ _ (ix2 b j) (ix2 b (0 : Fin 1)) fun a => ?_).trans
    ((broadcastInDim_apply _ _ _ (ix2 b (0 : Fin 1)) (ix1 b) fun a => ?_).trans (fifth_flat v b))
  · match a with
    | ⟨0, _⟩ => rfl
    | ⟨1, _⟩ => rfl
  · match a with
    | ⟨0, _⟩ => rfl

/-- The host's count of a row's marks. -/
theorem count_row (p : IVec SE 1) (h : SE.ReducesTo [1] S4) (hu : 0 < S_.numel) (b : Fin 4) :
    Host.reduce IntOp.addi (extui 32 p Facts.natLt_1_32) (constantI S_ 32 0#32) h hu (ix1 b)
      = BitVec.ofNat 32 (univ.filter fun j : Fin 8192 => p (ix2 b j) = 1#1).card := by
  refine (Host.reduce_eq_fold IntOp.addi _ _ h hu (ix1 b)).trans ?_
  refine (Shape.ReducesTo.fold_fiber_r2_a1 h (ix1 b) IntOp.addi _ _).trans ?_
  refine (Finset.fold_congr fun k _ => ?_).trans (Idealize.ShloMosaic.IndicatorCount.fold_addi_setWidth_eq_card (fun j : Fin 8192 => p (ix2 b j)) univ)
  refine congrArg (fun i => (p i).setWidth 32) (funext fun d => ?_)
  match d with
  | ⟨0, _⟩ => rfl
  | ⟨1, _⟩ => rfl

theorem top_eq : Ideal.ofBits .f32 0x7F800000#32 = ⊤ := by
  simp [Ideal.ofBits, Ideal.ieee]

theorem zero_eq : Ideal.ofBits .f32 0x00000000#32 = ((0 : ℝ) : EReal) := by
  simp [Ideal.ofBits, Ideal.ieee]

section Read

variable (X : FVec Ideal SX .f32) (W : FVec Ideal SW .f32)

/-- The input is real. -/
theorem real (h : (fn (F := Ideal) X W).1 = fun _ => 1#1) (i : SX.Idx) : ∃ x : ℝ, (X i : EReal) = (x : EReal) := by
  have h1 : Ideal.cmp .olt (max (X i : EReal) (-(X i : EReal))) (Ideal.ofBits .f32 0x7F800000#32) = 1#1 := congrFun h i
  rw [top_eq] at h1
  have h2 : max (X i : EReal) (-(X i : EReal)) < ⊤ := by
    by_contra hn
    simp [Ideal.cmp, hn] at h1
  generalize (X i : EReal) = z at h2
  induction z using EReal.rec with
  | bot => simp at h2
  | top => simp at h2
  | coe x => exact ⟨x, rfl⟩

/-- In every row few scores reach the fifth, or the fifth is zero. -/
theorem few (h : (fn (F := Ideal) X W).2 = fun _ => 1#1) (b : Fin 4) :
    ∃ t : ℝ, (fifth (e X W) (ix2 b (0 : Fin 1)) : EReal) = (t : EReal)
      ∧ Top.IsFifth (fun j : Fin 8192 => ((score X W b j : ℝ) : EReal)) (t : EReal)
      ∧ ((univ.filter fun j : Fin 8192 => t ≤ score X W b j).card ≤ 8 ∨ t = 0) := by
  have hf := host_fifth (e X W) Facts.sliceFits_S4x8192_S4x5 Facts.slices_S4x5_S4x1_0_4 b 0
  rw [show (fun j : Fin 8192 => (e X W (ix2 b j) : EReal)) = fun j => ((score X W b j : ℝ) : EReal) from
    funext fun j => e_apply X W b j] at hf
  change Top.IsFifth _ (fifth (e X W) (ix2 b (0 : Fin 1)) : EReal) at hf
  have ht : ∃ t : ℝ, (fifth (e X W) (ix2 b (0 : Fin 1)) : EReal) = (t : EReal) := by
    generalize (fifth (e X W) (ix2 b (0 : Fin 1)) : EReal) = z at hf
    induction z using EReal.rec with
    | bot =>
      have := hf.1
      simp at this
    | top =>
      have := hf.2
      simp at this
    | coe x => exact ⟨x, rfl⟩
  obtain ⟨t, ht⟩ := ht
  rw [ht] at hf
  refine ⟨t, ht, hf, ?_⟩
  have h1 : IntOp.ori (IntOp.cmpi .sle (Host.reduce IntOp.addi (extui 32 (reach (e X W)) Facts.natLt_1_32) (constantI S_ 32 0#32)
        Facts.reducesTo_S4x8192_S4_d1 Facts.h_S_ (ix1 b)) (8#32))
      (Ideal.cmp .oeq (shapeCast S4 (fifth (e X W)) Facts.shapeCasts_S4x1_S4 (ix1 b)) (Ideal.ofBits .f32 0x00000000#32)) = 1#1 :=
    congrFun h (ix1 b)
  rw [count_row, fifth_flat, ht, zero_eq] at h1
  have hset : (univ.filter fun j : Fin 8192 => reach (e X W) (ix2 b j) = 1#1) = univ.filter fun j : Fin 8192 => t ≤ score X W b j := by
    refine filter_congr fun j _ => ?_
    rw [reach_apply, e_apply, ht]
    by_cases hj : t ≤ score X W b j
    · simp [Ideal.cmp, hj]
    · simp [Ideal.cmp, hj]
  rw [hset] at h1
  by_cases h0 : t = 0
  · exact Or.inr h0
  · left
    have hcard : (univ.filter fun j : Fin 8192 => t ≤ score X W b j).card ≤ 8192 :=
      (card_le_univ _).trans (by simp)
    generalize (univ.filter fun j : Fin 8192 => t ≤ score X W b j).card = n at h1 hcard
    by_contra hn
    have hs : BitVec.sle (BitVec.ofNat 32 n) 8#32 = false := by
      rw [BitVec.sle_eq_decide]
      refine decide_eq_false ?_
      rw [BitVec.toInt_eq_toNat_of_lt (by simp; omega), BitVec.toNat_ofNat, Nat.mod_eq_of_lt (by omega)]
      have : (8#32 : BitVec 32).toInt = 8 := by decide
      omega
    have hz : Ideal.cmp .oeq (t : EReal) ((0 : ℝ) : EReal) = 0#1 := by
      have : ¬ ((t : ℝ) : EReal) = ((0 : ℝ) : EReal) := fun hh => h0 (EReal.coe_eq_coe_iff.1 hh)
      simp only [Ideal.cmp, decide_eq_false this]
      rfl
    rw [hz] at h1
    simp [IntOp.cmpi, hs, IntOp.ori] at h1

end Read

end Cert.Proof.Condition

end
-- ==== Proof.Reference.lean ====
module

public import proofs.«01_k».proof.Proof.Gen.ReferenceIdeal.Run
public import proofs.«01_k».proof.Proof.Scores
public import proofs.«01_k».proof.Proof.Rows

/-! The reference's result over extended reals: at a real input it is, in every column, the mean of the input's column
    under the weights `exp` of the gated scores. -/

@[expose] public section

noncomputable section

namespace Cert.ReferenceIdeal.Whole

open Cert.ReferenceIdeal Cert.ReferenceIdeal.Gen
open Idealize.ShloMosaic hiding ix1 ix2 ix3 eq_ix2 eq_ix3
open Idealize.ShloMosaic.TcCoe
open Idealize.ShloMosaic.ValueIdx (ix1 ix2 ix3 eq_ix2 eq_ix3)
open Cert.Proof.Scores
open Cert.Proof.Top (gated IsFifth)
open Finset

section Stages

variable {F : FTy → Type} [FloatOps F]

/-- The scores. -/
def scores (X : FVec F S4x8192x768 .f32) (W : FVec F S768x1 .f32) : FVec F S4x8192 .f32 :=
  shapeCast S4x8192 (Host.tanh (Host.dotGeneral dot_S4x8192x768_S768x1_S4x8192x1_2_0_01_1_n_n none X W)) shapeCasts_S4x8192x1_S4x8192

/-- Each row's fifth value. -/
def fifth (v : FVec F S4x8192 .f32) : FVec F S4x1 .f32 :=
  extractStridedSlice S4x1 ![0, 4] (Host.topK S4x5 1 (FloatOps.cmpfTotal .gt) v sliceFits_S4x8192_S4x5).1 slices_S4x5_S4x1_0_4

/-- The gated scores. -/
def gate (v : FVec F S4x8192 .f32) : FVec F S4x8192 .f32 :=
  mulf (uitofp .f32 (cmpf .oge v (broadcastInDim S4x8192 ![0, 1] bcast_S4x1_S4x8192_0_1 (fifth v)))) v

/-- Each row's greatest gated score. -/
def peak (g : FVec F S4x8192 .f32) : FVec F S4 .f32 :=
  maximumf (broadcastInDim S4 ![] bcast_S_S4 (constant S_ .f32 0xFF800000#32))
    (Host.reduce FloatOps.maximumf g (constant S_ .f32 0xFF800000#32) reducesTo_S4x8192_S4_d1 h_S_)

/-- A value per row, along the row. -/
def spread (v : FVec F S4 .f32) : FVec F S4x8192 .f32 :=
  broadcastInDim S4x8192 ![0, 1] bcast_S4x1_S4x8192_0_1 (broadcastInDim S4x1 ![0] bcast_S4_S4x1_0 v)

/-- The exponentials. -/
def powers (g : FVec F S4x8192 .f32) : FVec F S4x8192 .f32 := Host.exp (subf g (spread (peak g)))

/-- Each row's sum. -/
def total (q : FVec F S4x8192 .f32) : FVec F S4 .f32 :=
  Host.reduceAdd q (constant S_ .f32 0x00000000#32) reducesTo_S4x8192_S4_d1 h_S_

/-- Their share of the row's sum. -/
def share (q : FVec F S4x8192 .f32) : FVec F S4x8192 .f32 := Host.divf q (spread (total q))

/-- The rows of the input, weighted and summed. -/
def pool (X : FVec F S4x8192x768 .f32) (q : FVec F S4x8192 .f32) : FVec F S4x768 .f32 :=
  Host.reduceAdd (mulf X (broadcastInDim S4x8192x768 ![0, 1, 2] bcast_S4x8192x1_S4x8192x768_0_1_2
    (broadcastInDim S4x8192x1 ![0, 1] bcast_S4x8192_S4x8192x1_0_1 q))) (constant S_ .f32 0x00000000#32)
    reducesTo_S4x8192x768_S4x768_d1 h_S_

theorem result_eq (m : (ℓ : Loc nD τ sig) → Buf (Elt F) ℓ) (c : Dev nD) :
    Value.res_main_v22 m c = pool (m ((c.tc : Thread nD τ).loc main_arg0)) (share (powers (gate
      (scores (m ((c.tc : Thread nD τ).loc main_arg0)) (m ((c.tc : Thread nD τ).loc main_arg1)))))) := by
  unfold Value.res_main_v22
  rfl

end Stages

theorem spread_apply (v : FVec Ideal S4 .f32) (b : Fin 4) (j : Fin 8192) : (spread v (ix2 b j) : EReal) = v (ix1 b) := by
  refine (broadcastInDim_apply _ _ _ (ix2 b j) (ix2 b (0 : Fin 1)) fun a => ?_).trans
    (broadcastInDim_apply _ _ _ (ix2 b (0 : Fin 1)) (ix1 b) fun a => ?_)
  · match a with
    | ⟨0, _⟩ => rfl
    | ⟨1, _⟩ => rfl
  · match a with
    | ⟨0, _⟩ => rfl

theorem share_apply (q : FVec Ideal S4x8192 .f32) (b : Fin 4) (j : Fin 8192) :
    (share q (ix2 b j) : EReal) = Ideal.div (q (ix2 b j)) (total q (ix1 b)) :=
  (Idealize.ShloMosaic.ValueIdx.hostDivf_apply (φ := .f32) q (spread (total q)) (ix2 b j)).trans (by rw [spread_apply])

theorem powers_apply (g : FVec Ideal S4x8192 .f32) (b : Fin 4) (j : Fin 8192) :
    (powers g (ix2 b j) : EReal) = Ideal.exp ((g (ix2 b j) : EReal) - peak g (ix1 b)) :=
  congrArg (fun z : EReal => Ideal.exp ((g (ix2 b j) : EReal) - z)) (spread_apply _ b j)

/-- A sum of reals, taken among the extended reals. -/
theorem coe_sum {ι : Type} (s : Finset ι) (f : ι → ℝ) : (((∑ i ∈ s, f i : ℝ)) : EReal) = ∑ i ∈ s, ((f i : ℝ) : EReal) := by
  classical
  induction s using Finset.induction_on with
  | empty => simp
  | insert a s ha ih => rw [sum_insert ha, sum_insert ha, EReal.coe_add, ih]

theorem zero_eq : Ideal.ofBits .f32 0x00000000#32 = (0 : EReal) := by
  simp [Ideal.ofBits, Ideal.ieee]

theorem row_sum (q : FVec Ideal S4x8192 .f32) (b : Fin 4) :
    (total q (ix1 b) : EReal) = ∑ j : Fin 8192, (q (ix2 b j) : EReal) := by
  refine (Ideal.hostReduceAdd_r2_a1 reducesTo_S4x8192_S4_d1 q (Ideal.ofBits .f32 0x00000000#32) (ix1 b)).trans ?_
  rw [zero_eq, zero_add]
  refine sum_congr rfl fun k _ => congrArg q (funext fun d => ?_)
  match d with
  | ⟨0, _⟩ => rfl
  | ⟨1, _⟩ => rfl

theorem pool_apply (X : FVec Ideal S4x8192x768 .f32) (q : FVec Ideal S4x8192 .f32) (b : Fin 4) (d : Fin 768) :
    (pool X q (ix2 b d) : EReal) = ∑ j : Fin 8192, (X (ix3 b j d) : EReal) * q (ix2 b j) := by
  unfold pool
  refine (Ideal.hostReduceAdd_r3_a1 reducesTo_S4x8192x768_S4x768_d1 _ (Ideal.ofBits .f32 0x00000000#32) (ix2 b d)).trans ?_
  rw [zero_eq, zero_add]
  refine sum_congr rfl fun j _ => ?_
  have hi : Idealize.ShloMosaic.ix3 (b : Fin 4) (j : Fin 8192) (d : Fin 768) = ix3 b j d := by
    funext a
    match a with
    | ⟨0, _⟩ => rfl
    | ⟨1, _⟩ => rfl
    | ⟨2, _⟩ => rfl
  show (X (Idealize.ShloMosaic.ix3 (b : Fin 4) (j : Fin 8192) (d : Fin 768)) : EReal)
    * broadcastInDim S4x8192x768 ![0, 1, 2] bcast_S4x8192x1_S4x8192x768_0_1_2
      (broadcastInDim S4x8192x1 ![0, 1] bcast_S4x8192_S4x8192x1_0_1 q) (Idealize.ShloMosaic.ix3 (b : Fin 4) (j : Fin 8192) (d : Fin 768)) = _
  rw [hi]
  refine congrArg (fun z : EReal => (X (ix3 b j d) : EReal) * z) ?_
  refine (broadcastInDim_apply _ _ _ (ix3 b j d) (ix3 b j (0 : Fin 1)) fun a => ?_).trans
    (broadcastInDim_apply _ _ _ (ix3 b j (0 : Fin 1)) (ix2 b j) fun a => ?_)
  · match a with
    | ⟨0, _⟩ => rfl
    | ⟨1, _⟩ => rfl
    | ⟨2, _⟩ => rfl
  · match a with
    | ⟨0, _⟩ => rfl
    | ⟨1, _⟩ => rfl

/-- The greatest of a row of reals is real. -/
theorem peak_real (g : FVec Ideal S4x8192 .f32) (b : Fin 4) (y : Fin 8192 → ℝ) (hy : ∀ j, (g (ix2 b j) : EReal) = ((y j : ℝ) : EReal)) :
    ∃ m : ℝ, (peak g (ix1 b) : EReal) = (m : EReal) := by
  have e : ((Host.reduce FloatOps.maximumf g (constant S_ .f32 0xFF800000#32) reducesTo_S4x8192_S4_d1 h_S_ : FVec Ideal S4 .f32) (ix1 b) : EReal)
      = univ.fold max ⊥ fun j : Fin 8192 => ((y j : ℝ) : EReal) := by
    refine (Host.reduce_eq_fold (α := Ideal .f32) FloatOps.maximumf g _ reducesTo_S4x8192_S4_d1 h_S_ (ix1 b)).trans ?_
    refine (Shape.ReducesTo.fold_fiber_r2_a1 reducesTo_S4x8192_S4_d1 (ix1 b) _ _ _).trans ?_
    show univ.fold max (Ideal.ofBits .f32 0xFF800000#32) _ = _
    rw [Cert.KernelIdeal.Rounds8.negInf_eq]
    refine Finset.fold_congr fun k _ => (congrArg g (funext fun d => ?_)).trans (hy k)
    match d with
    | ⟨0, _⟩ => rfl
    | ⟨1, _⟩ => rfl
  obtain ⟨k, hk⟩ := (Cert.KernelIdeal.Rounds8.fold_max_spec (by norm_num) fun j : Fin 8192 => ((y j : ℝ) : EReal)).2
  refine ⟨y k, ?_⟩
  show max (Ideal.ofBits .f32 0xFF800000#32)
    ((Host.reduce FloatOps.maximumf g (constant S_ .f32 0xFF800000#32) reducesTo_S4x8192_S4_d1 h_S_ : FVec Ideal S4 .f32) (ix1 b) : EReal) = _
  rw [e, ← hk, Cert.KernelIdeal.Rounds8.negInf_eq]
  exact max_eq_right bot_le

theorem gate_apply (v : FVec Ideal S4x8192 .f32) (b : Fin 4) (r : Fin 8192 → ℝ) (hr : ∀ j, (v (ix2 b j) : EReal) = ((r j : ℝ) : EReal))
    (t : ℝ) (ht : (fifth v (ix2 b (0 : Fin 1)) : EReal) = (t : EReal)) (j : Fin 8192) :
    (gate v (ix2 b j) : EReal) = ((gated r t j : ℝ) : EReal) := by
  have hs : broadcastInDim S4x8192 ![0, 1] bcast_S4x1_S4x8192_0_1 (fifth v) (ix2 b j) = fifth v (ix2 b (0 : Fin 1)) := by
    refine broadcastInDim_apply _ _ _ (ix2 b j) (ix2 b (0 : Fin 1)) fun a => ?_
    match a with
    | ⟨0, _⟩ => rfl
    | ⟨1, _⟩ => rfl
  show (((Ideal.cmp .oge (v (ix2 b j)) (broadcastInDim S4x8192 ![0, 1] bcast_S4x1_S4x8192_0_1 (fifth v) (ix2 b j))).toNat : ℝ) : EReal)
    * (v (ix2 b j) : EReal) = _
  rw [hs, ht, hr]
  unfold gated
  by_cases h : t ≤ r j
  · simp [Ideal.cmp, h]
  · simp [Ideal.cmp, h]

/-- The mean under the shifted weights is the mean under the weights. -/
theorem mean_shift {ι : Type} [Fintype ι] [Nonempty ι] (x g : ι → ℝ) (m : ℝ) :
    ∑ j, x j * (Real.exp (g j - m) / ∑ i, Real.exp (g i - m)) = (∑ j, x j * Real.exp (g j)) / ∑ j, Real.exp (g j) := by
  have hm := (Real.exp_pos m).ne'
  have hsum : (∑ i, Real.exp (g i - m)) = (∑ i, Real.exp (g i)) / Real.exp m := by
    rw [sum_div]
    exact sum_congr rfl fun i _ => Real.exp_sub _ _
  have hpos : (∑ i, Real.exp (g i) : ℝ) ≠ 0 := (sum_pos (fun i _ => Real.exp_pos _) univ_nonempty).ne'
  rw [hsum, sum_div _ _ (∑ j, Real.exp (g j))]
  refine sum_congr rfl fun j _ => ?_
  rw [Real.exp_sub]
  field_simp

/-- One entry of the reference's result. -/
theorem value (X : FVec Ideal S4x8192x768 .f32) (W : FVec Ideal S768x1 .f32) (b : Fin 4) (d : Fin 768) (t : ℝ)
    (ht : IsFifth (fun j : Fin 8192 => ((score X W b j : ℝ) : EReal)) (t : EReal))
    (x : Fin 8192 → ℝ) (hx : ∀ j, (X (ix3 b j d) : EReal) = ((x j : ℝ) : EReal)) :
    (pool X (share (powers (gate (scores X W)))) (ix2 b d) : EReal)
      = (((∑ j, x j * Real.exp (gated (score X W b) t j)) / ∑ j, Real.exp (gated (score X W b) t j) : ℝ) : EReal) := by
  have hr : ∀ j, (scores X W (ix2 b j) : EReal) = ((score X W b j : ℝ) : EReal) := fun j => host_score _ X W _ b j
  have hf : (fifth (scores X W) (ix2 b (0 : Fin 1)) : EReal) = (t : EReal) := by
    have h := host_fifth (scores X W) sliceFits_S4x8192_S4x5 slices_S4x5_S4x1_0_4 b 0
    rw [show (fun j : Fin 8192 => (scores X W (ix2 b j) : EReal)) = fun j => ((score X W b j : ℝ) : EReal) from funext hr] at h
    exact h.unique ht
  have hg := gate_apply (scores X W) b (score X W b) hr t hf
  obtain ⟨m, hm⟩ := peak_real (gate (scores X W)) b _ hg
  have hp : ∀ j, (powers (gate (scores X W)) (ix2 b j) : EReal) = ((Real.exp (gated (score X W b) t j - m) : ℝ) : EReal) := by
    intro j
    rw [powers_apply, hm, hg, ← EReal.coe_sub]
    rfl
  have hz : (∑ i, Real.exp (gated (score X W b) t i - m) : ℝ) ≠ 0 := (sum_pos (fun i _ => Real.exp_pos _) univ_nonempty).ne'
  have hq : ∀ j, (share (powers (gate (scores X W))) (ix2 b j) : EReal)
      = ((Real.exp (gated (score X W b) t j - m) / ∑ i, Real.exp (gated (score X W b) t i - m) : ℝ) : EReal) := by
    intro j
    rw [share_apply, row_sum, sum_congr rfl fun j _ => hp j, ← coe_sum, hp, Ideal.div_coe hz, ← EReal.coe_mul, mul_one_div]
  rw [pool_apply, ← mean_shift x (gated (score X W b) t) m, coe_sum]
  refine sum_congr rfl fun j _ => ?_
  rw [hx, hq, ← EReal.coe_mul]

end Cert.ReferenceIdeal.Whole

end
-- ==== Proof.Weights.lean ====
module

public import proofs.«01_k».proof.Proof.Rows
public import proofs.«01_k».proof.Proof.TailValue
public import proofs.«01_k».proof.Proof.Top

/-! The weights the second call stores, over extended reals: lane `k < 8` of a row holds `exp v - 1` of the `k`-th
    largest score `v` when `v` reaches the fifth largest and zero otherwise, and lane 8 the row length plus the weights. -/

@[expose] public section

noncomputable section

namespace Cert.KernelIdeal.Rounds8

open Cert.KernelIdeal Cert.KernelIdeal.Gen
open Idealize.ShloMosaic hiding ix1 ix2 ix3 eq_ix2
open Idealize.ShloMosaic.TcCoe
open Idealize.ShloMosaic.ValueIdx (ix1 ix2 eq_ix2)
open Cert.KernelIdeal.Tail (pick)
open Finset

/-- A sum of reals, taken among the extended reals. -/
theorem coe_sum {ι : Type} (s : Finset ι) (f : ι → ℝ) : (((∑ i ∈ s, f i : ℝ)) : EReal) = ∑ i ∈ s, ((f i : ℝ) : EReal) := by
  classical
  induction s using Finset.induction_on with
  | empty => simp
  | insert a s ha ih => rw [sum_insert ha, sum_insert ha, EReal.coe_add, ih]

theorem low_eq : (low : Ideal .f32) = ((-2 : ℝ) : EReal) := by
  show Ideal.ofBits .f32 0xC0000000#32 = _
  simp [Ideal.ofBits, Ideal.ieee]
  rw [← EReal.coe_mul]
  norm_num

theorem one_eq : Ideal.ofBits .f32 0x3F800000#32 = ((1 : ℝ) : EReal) := by
  simp [Ideal.ofBits, Ideal.ieee]
  rw [← EReal.coe_mul]
  norm_num

theorem zero_eq : Ideal.ofBits .f32 0x00000000#32 = ((0 : ℝ) : EReal) := by
  simp [Ideal.ofBits, Ideal.ieee]

theorem length_eq : Ideal.ofBits .f32 0x46000000#32 = ((8192 : ℝ) : EReal) := by
  simp [Ideal.ofBits, Ideal.ieee]
  rw [← EReal.coe_mul]
  norm_num

/-- A choice made on the equality of two small numbers. -/
theorem select_eq {α : Type} (a b : ℕ) (ha : a < 4294967296) (hb : b < 4294967296) (x y : α) :
    Scalar.select (IntOp.cmpi .eq (BitVec.ofNat 32 a) (BitVec.ofNat 32 b)) x y = if a = b then x else y := by
  by_cases h : a = b
  · subst h; simp [Scalar.select, IntOp.cmpi]
  · have hne : ¬ BitVec.ofNat 32 a = BitVec.ofNat 32 b := fun hh => h (by
      have := congrArg BitVec.toNat hh
      simpa [BitVec.toNat_ofNat, Nat.mod_eq_of_lt ha, Nat.mod_eq_of_lt hb] using this)
    have h0 : IntOp.cmpi .eq (BitVec.ofNat 32 a) (BitVec.ofNat 32 b) = 0#1 := by
      unfold IntOp.cmpi; rw [beq_eq_false_iff_ne.2 hne]; rfl
    rw [h0, if_neg h]
    exact if_neg (by decide)

/-- A choice made on the order of two extended reals. -/
theorem select_oge {α : Type} (x y : EReal) (a b : α) :
    Scalar.select (Ideal.cmp .oge x y) a b = if y ≤ x then a else b := by
  by_cases h : y ≤ x
  · simp [Scalar.select, Ideal.cmp, h]
  · simp [Scalar.select, Ideal.cmp, h]

/-- The sum of a row of lanes. -/
theorem row_sum (V : FVec Ideal S4x128 .f32) (b : Fin 4) (u : Fin 1) :
    shapeCast S4x1 (multiReduction .add [1] S4 V 0x00000000#32 reduces_S4x128_S4 (.inl rfl) rfl) shapeCasts_S4_S4x1 (ix2 b u)
      = ∑ k : Fin 128, (V (ix2 b k) : EReal) := by
  refine (ValueIdx.shapeCast_a_a1_apply _ shapeCasts_S4_S4x1 b u).trans ?_
  refine (multiReduction_add_apply (F := Ideal) V _ reduces_S4x128_S4 (.inl rfl) rfl (ix1 b)).trans ?_
  refine (Ideal.reduceAdd_r2_a1 reduces_S4x128_S4 V (ix1 b)).trans (sum_congr rfl fun k _ => congrArg V (funext fun d => ?_))
  match d with
  | ⟨0, _⟩ => rfl
  | ⟨1, _⟩ => rfl

/-- Lane 4 of each row, in every lane. -/
def pivot {F : FTy → Type} [FloatOps F] (V : FVec F S4x128 .f32) : FVec F S4x128 .f32 :=
  broadcastTo S4x128 (shapeCast S4x1 (multiReduction .add [1] S4
    (select (cmpi .eq lanes (broadcast S4x128 4#32)) V (broadcast S4x128 (Scalar.ofBits .f32 0x00000000#32)))
    0x00000000#32 reduces_S4x128_S4 (.inl rfl) rfl) shapeCasts_S4_S4x1) broadcasts_S4x1_S4x128

/-- The weights before the normaliser is put beside them. -/
def raw {F : FTy → Type} [FloatOps F] (V : FVec F S4x128 .f32) : FVec F S4x128 .f32 :=
  select (cmpf .oge V (pivot V)) (subf (exp V) (broadcast S4x128 (Scalar.ofBits .f32 0x3F800000#32)))
    (broadcast S4x128 (Scalar.ofBits .f32 0x00000000#32))

theorem wAll_eq {F : FTy → Type} [FloatOps F] (e : Vec F S4x8192 .f32) :
    wAll e = shapeCast S4x128 (select (cmpi .eq lanes (broadcast S4x128 8#32))
      (broadcastTo S4x128 (shapeCast S4x1 (addf (broadcast S4x1 (Scalar.ofBits .f32 0x46000000#32))
        (shapeCast S4x1 (multiReduction .add [1] S4 (raw (valLanes e 8)) 0x00000000#32 reduces_S4x128_S4 (.inl rfl) rfl)
          shapeCasts_S4_S4x1)) shapeCasts_S4x1_S4x1) broadcasts_S4x1_S4x128) (raw (valLanes e 8))) shapeCasts_S4x128_S4x128 := rfl

theorem pivot_apply (V : FVec Ideal S4x128 .f32) (b : Fin 4) (k : Fin 128) : pivot V (ix2 b k) = V (ix2 b 4) := by
  unfold pivot
  refine (broadcastTo_col _ broadcasts_S4x1_S4x128 b k).trans ((row_sum _ b 0).trans ?_)
  have hterm : ∀ j : Fin 128, ((select (cmpi .eq lanes (broadcast S4x128 4#32)) V
      (broadcast S4x128 (Scalar.ofBits .f32 0x00000000#32)) : FVec Ideal S4x128 .f32) (ix2 b j) : EReal) = if j.val = 4 then V (ix2 b j) else ((0 : ℝ) : EReal) := by
    intro j
    show Scalar.select (IntOp.cmpi .eq (lanes (ix2 b j)) (BitVec.ofNat 32 4)) (V (ix2 b j)) (Ideal.ofBits .f32 0x00000000#32) = _
    rw [lanes_apply, select_eq _ _ (by have := j.isLt; omega) (by norm_num), zero_eq]
  rw [sum_congr rfl fun j _ => hterm j, sum_eq_single (4 : Fin 128)]
  · exact if_pos rfl
  · intro j _ hj
    exact if_neg fun h => hj (Fin.ext h)
  · intro h; exact absurd (mem_univ _) h

theorem raw_apply (V : FVec Ideal S4x128 .f32) (b : Fin 4) (k : Fin 128) :
    (raw V (ix2 b k) : EReal) = if (V (ix2 b 4) : EReal) ≤ V (ix2 b k) then Ideal.exp (V (ix2 b k)) - ((1 : ℝ) : EReal) else ((0 : ℝ) : EReal) := by
  show Scalar.select (Ideal.cmp .oge (V (ix2 b k)) (pivot V (ix2 b k)))
    (Ideal.exp (V (ix2 b k)) - Ideal.ofBits .f32 0x3F800000#32 : EReal) (Ideal.ofBits .f32 0x00000000#32) = _
  rw [pivot_apply, select_oge, one_eq, zero_eq]

/-- The place found in round `k` of row `b`. -/
def place (e : Vec Ideal S4x8192 .f32) (b : Fin 4) (k : ℕ) : Fin 8192 := pick (rowArg (after e k) (ix2 b (0 : Fin 1)))

theorem place_spec (e : Vec Ideal S4x8192 .f32) (b : Fin 4) (k : ℕ) :
    rowArg (after e k) (ix2 b (0 : Fin 1)) = BitVec.ofNat 32 (place e b k).val
      ∧ (after e k (ix2 b (place e b k)) : EReal) = rowMax (after e k) (ix2 b (0 : Fin 1)) := by
  obtain ⟨j, h1, h2⟩ := rowArg_spec (after e k) b 0
  have : place e b k = j := by
    unfold place pick
    apply Fin.ext
    have := j.isLt
    show (rowArg (after e k) (ix2 b (0 : Fin 1))).toNat % 8192 = j.val
    rw [h1, BitVec.toNat_ofNat]
    omega
  rw [this]
  exact ⟨h1, h2⟩

theorem strike_apply (e : Vec Ideal S4x8192 .f32) (b : Fin 4) (k : ℕ) (j : Fin 8192) :
    (after e (k + 1) (ix2 b j) : EReal) = if j = place e b k then (low : Ideal .f32) else after e k (ix2 b j) := by
  show Scalar.select (IntOp.cmpi .eq (cols (ix2 b j)) (broadcastTo S4x8192 (rowArg (after e k)) broadcasts_S4x1_S4x8192 (ix2 b j)))
    (low : Ideal .f32) (after e k (ix2 b j)) = _
  rw [show broadcastTo S4x8192 (rowArg (after e k)) broadcasts_S4x1_S4x8192 (ix2 b j) = rowArg (after e k) (ix2 b (0 : Fin 1)) from
    broadcastTo_col _ broadcasts_S4x1_S4x8192 b j, cols_apply, (place_spec e b k).1,
    select_eq _ _ (by have := j.isLt; omega) (by have := (place e b k).isLt; omega)]
  by_cases h : j = place e b k
  · rw [if_pos h, if_pos (congrArg Fin.val h)]
  · rw [if_neg h, if_neg fun hh => h (Fin.ext hh)]

/-- The eight rounds pick the largest entries of a row whose scores all exceed the struck-out value. -/
theorem picks (e : Vec Ideal S4x8192 .f32) (b : Fin 4) (he : ∀ j : Fin 8192, ((-2 : ℝ) : EReal) < e (ix2 b j)) :
    Cert.Proof.Top.Picks (fun j : Fin 8192 => (e (ix2 b j) : EReal)) ((-2 : ℝ) : EReal) 8
      (fun k j => (after e k (ix2 b j) : EReal)) (place e b) where
  small := by norm_num
  above := he
  start := by
    funext j
    show (shapeCast S4x8192 e shapeCasts_S4x8192_S4x8192 (ix2 b j) : EReal) = _
    rw [shapeCast_self]
  step := fun k _ j => by rw [strike_apply, low_eq]
  largest := fun k _ j => by
    show (after e k (ix2 b j) : EReal) ≤ after e k (ix2 b (place e b k))
    rw [(place_spec e b k).2]
    exact (rowMax_spec (after e k) b 0).1 j

section Row

variable (e : Vec Ideal S4x8192 .f32) (b : Fin 4) (r : Fin 8192 → ℝ) (hr : ∀ j, (e (ix2 b j) : EReal) = ((r j : ℝ) : EReal))
  (hlow : ∀ j, -2 < r j)

include hr hlow

theorem val_apply (k : Fin 128) :
    (valLanes e 8 (ix2 b k) : EReal) = (((if k.val < 8 then r (place e b k.val) else -2 : ℝ)) : EReal) := by
  have P := picks e b fun j => by rw [hr]; exact EReal.coe_lt_coe_iff.2 (hlow j)
  rw [valLanes_apply e b k 8 (by norm_num)]
  by_cases h : k.val < 8
  · rw [if_pos h, if_pos h, ← (place_spec e b k.val).2]
    exact (P.cur_pick k.val h).trans (hr _)
  · rw [if_neg h, if_neg h]; exact low_eq

/-- The weight of column `j` of a row with scores `r` and fifth largest score `t`. -/
def weight (r : Fin 8192 → ℝ) (t : ℝ) (j : Fin 8192) : ℝ := if t ≤ r j then Real.exp (r j) - 1 else 0

omit hr hlow in
theorem exp_coe (x : ℝ) : Ideal.exp (x : EReal) = ((Real.exp x : ℝ) : EReal) := rfl

theorem raw_val (k : Fin 128) : (raw (valLanes e 8) (ix2 b k) : EReal)
    = (((if k.val < 8 then weight r (r (place e b 4)) (place e b k.val) else 0 : ℝ)) : EReal) := by
  rw [raw_apply, val_apply e b r hr hlow, val_apply e b r hr hlow, if_pos (show (4 : Fin 128).val < 8 by decide)]
  show (if ((r (place e b 4) : ℝ) : EReal) ≤ _ then _ else _) = _
  by_cases h : k.val < 8
  · simp only [if_pos h]
    unfold weight
    by_cases h' : r (place e b 4) ≤ r (place e b k.val)
    · rw [if_pos (EReal.coe_le_coe_iff.2 h'), if_pos h', exp_coe, EReal.coe_sub]
    · rw [if_neg fun hh => h' (EReal.coe_le_coe_iff.1 hh), if_neg h']
  · simp only [if_neg h]
    rw [if_neg fun hh => absurd (hlow (place e b 4)) (not_lt.2 (EReal.coe_le_coe_iff.1 hh))]

/-- Lanes 0 to 7: the weights of the columns found. -/
theorem wAll_lane (k : Fin 128) (hk : k.val < 8) :
    (wAll e (ix2 b k) : EReal) = ((weight r (r (place e b 4)) (place e b k.val) : ℝ) : EReal) := by
  rw [wAll_eq, shapeCast_self]
  show Scalar.select (IntOp.cmpi .eq (lanes (ix2 b k)) (BitVec.ofNat 32 8)) _ (raw (valLanes e 8) (ix2 b k)) = _
  rw [lanes_apply, select_eq _ _ (by have := k.isLt; omega) (by norm_num), if_neg (by omega), raw_val e b r hr hlow, if_pos hk]

/-- Lane 8: the normaliser. -/
theorem wAll_norm : (wAll e (ix2 b (8 : Fin 128)) : EReal)
    = ((8192 + ∑ k ∈ range 8, weight r (r (place e b 4)) (place e b k) : ℝ) : EReal) := by
  rw [wAll_eq, shapeCast_self]
  show Scalar.select (IntOp.cmpi .eq (lanes (ix2 b (8 : Fin 128))) (BitVec.ofNat 32 8)) (broadcastTo S4x128 _ broadcasts_S4x1_S4x128 (ix2 b 8))
    (raw (valLanes e 8) (ix2 b (8 : Fin 128))) = _
  rw [lanes_apply, select_eq _ _ (by norm_num) (by norm_num), if_pos (by rfl)]
  refine (broadcastTo_col _ broadcasts_S4x1_S4x128 b 8).trans ?_
  rw [shapeCast_self]
  refine (congrArg (fun z : EReal => Ideal.ofBits .f32 0x46000000#32 + z) (row_sum (raw (valLanes e 8)) b 0)).trans ?_
  rw [length_eq, sum_congr rfl fun k _ => raw_val e b r hr hlow k, ← coe_sum, ← EReal.coe_add,
    Fin.sum_univ_eq_sum_range (fun k => if k < 8 then weight r (r (place e b 4)) (place e b k) else 0) 128, ← sum_filter]
  congr 3

end Row

end Cert.KernelIdeal.Rounds8

end
-- ==== Proof.RowValue.lean ====
module

public import proofs.«01_k».proof.Proof.Weights

/-! One entry of the second call's result over extended reals: with few scores reaching the fifth largest, the block sum
    corrected at the eight columns found is the whole weighted sum of the input's column, and the stored normaliser the
    whole sum of the weights. -/

@[expose] public section

noncomputable section

namespace Cert.KernelIdeal.Rounds8

open Cert.KernelIdeal Cert.KernelIdeal.Gen
open Idealize.ShloMosaic hiding ix1 ix2 ix3 eq_ix2
open Idealize.ShloMosaic.TcCoe
open Idealize.ShloMosaic.ValueIdx (ix1 ix2 ix3 eq_ix2)
open Cert.KernelIdeal.Tail
open Finset
open Cert.Proof.Top (gated)

theorem exp_gated (r : Fin 8192 → ℝ) (t : ℝ) (j : Fin 8192) : Real.exp (gated r t j) = 1 + weight r t j := by
  unfold gated weight
  split
  · ring
  · simp

theorem idx_place (e : Vec Ideal S4x8192 .f32) (b : Fin 4) (k : Fin 128) (hk : k.val < 8) :
    pick (idxAll e (ix2 b k)) = place e b k.val := by
  rw [idxAll_eq, shapeCast_self, idxLanes_apply e b k 8 (by norm_num), if_pos hk]
  rfl

section Row

variable (e : Vec Ideal S4x8192 .f32) (b : Fin 4) (r : Fin 8192 → ℝ) (hr : ∀ j, (e (ix2 b j) : EReal) = ((r j : ℝ) : EReal))
  (hlow : ∀ j, -2 < r j)

include hr hlow

/-- Over any family of real factors, the weights summed at the columns found are the weights summed over the row. -/
theorem sum_places (t : ℝ) (ht : Cert.Proof.Top.IsFifth (fun j => ((r j : ℝ) : EReal)) (t : EReal))
    (few : (univ.filter fun j => t ≤ r j).card ≤ 8 ∨ t = 0) (f : Fin 8192 → ℝ) :
    ∑ k ∈ range 8, weight r t (place e b k) * f (place e b k) = ∑ j, weight r t j * f j := by
  have P := picks e b fun j => by rw [hr]; exact EReal.coe_lt_coe_iff.2 (hlow j)
  rw [show (fun j : Fin 8192 => (e (ix2 b j) : EReal)) = fun j => ((r j : ℝ) : EReal) from funext hr] at P
  refine (P.sum_eq (fun j => weight r t j * f j) fun j hj => ?_).symm
  have hw : weight r t j ≠ 0 := left_ne_zero_of_mul hj
  have hle : t ≤ r j := by
    by_contra h
    exact hw (if_neg h)
  have h0 : r j ≠ 0 := fun h => hw (by unfold weight; rw [if_pos hle, h]; simp)
  refine P.picked (by norm_num) (t : EReal) ht ?_ j (EReal.coe_le_coe_iff.2 hle) (by exact_mod_cast h0)
  rcases few with few | few
  · left
    simpa only [EReal.coe_le_coe_iff] using few
  · right
    exact_mod_cast few

/-- The fifth score found stands fifth in its row. -/
theorem place_fifth (t : ℝ) (ht : Cert.Proof.Top.IsFifth (fun j => ((r j : ℝ) : EReal)) (t : EReal)) : r (place e b 4) = t := by
  have P := picks e b fun j => by rw [hr]; exact EReal.coe_lt_coe_iff.2 (hlow j)
  rw [show (fun j : Fin 8192 => (e (ix2 b j) : EReal)) = fun j => ((r j : ℝ) : EReal) from funext hr] at P
  exact EReal.coe_eq_coe_iff.1 ((P.isFifth (by norm_num)).unique ht)

/-- One entry of the result: the mean of the input's column under the weights `exp` of the gated scores. -/
theorem tail_value (t : ℝ) (ht : Cert.Proof.Top.IsFifth (fun j => ((r j : ℝ) : EReal)) (t : EReal))
    (few : (univ.filter fun j => t ≤ r j).card ≤ 8 ∨ t = 0) (s : Vec Ideal S4x768 .f32) (X : Vec Ideal S4x8192x768 .f32) (d : Fin 768)
    (x : Fin 8192 → ℝ) (hx : ∀ j, (X (ix3 b j d) : EReal) = ((x j : ℝ) : EReal))
    (hs : (s (ix2 b d) : EReal) = ((∑ j, x j : ℝ) : EReal)) :
    (tailOut e s X (ix2 b d) : EReal)
      = (((∑ j, x j * Real.exp (gated r t j)) / ∑ j, Real.exp (gated r t j) : ℝ) : EReal) := by
  have ht4 := place_fifth e b r hr hlow t ht
  have hrow : ∀ k : Fin 128, k.val < 8 → (rowAt X (idxAll e) b k d : EReal) = ((x (place e b k.val) : ℝ) : EReal) := by
    intro k hk
    unfold rowAt
    rw [idx_place e b k hk]
    exact hx _
  have hw : ∀ k : Fin 128, k.val < 8 → (wAll e (ix2 b k) : EReal) = ((weight r t (place e b k.val) : ℝ) : EReal) := by
    intro k hk
    rw [wAll_lane e b r hr hlow k hk, ht4]
  have hz := wAll_norm e b r hr hlow
  rw [ht4] at hz
  have hden : (8192 + ∑ k ∈ range 8, weight r t (place e b k) : ℝ) = ∑ j, Real.exp (gated r t j) := by
    have h1 := sum_places e b r hr hlow t ht few fun _ => 1
    simp only [mul_one] at h1
    rw [h1, sum_congr rfl fun j _ => exp_gated r t j, sum_add_distrib]
    simp
  have hnum : (∑ j, x j + ∑ k ∈ range 8, weight r t (place e b k) * x (place e b k) : ℝ) = ∑ j, x j * Real.exp (gated r t j) := by
    rw [sum_places e b r hr hlow t ht few x, ← sum_add_distrib]
    exact sum_congr rfl fun j _ => by rw [exp_gated]; ring
  have hpos : (∑ j, Real.exp (gated r t j) : ℝ) ≠ 0 := (sum_pos (fun j _ => Real.exp_pos _) ⟨0, mem_univ _⟩).ne'
  have hout : (tailOut e s X (ix2 b d) : EReal) = Ideal.div
      (((((((((s (ix2 b d) : EReal) + wAll e (ix2 b 0) * rowAt X (idxAll e) b 0 d) + wAll e (ix2 b 1) * rowAt X (idxAll e) b 1 d)
        + wAll e (ix2 b 2) * rowAt X (idxAll e) b 2 d) + wAll e (ix2 b 3) * rowAt X (idxAll e) b 3 d)
        + wAll e (ix2 b 4) * rowAt X (idxAll e) b 4 d) + wAll e (ix2 b 5) * rowAt X (idxAll e) b 5 d)
        + wAll e (ix2 b 6) * rowAt X (idxAll e) b 6 d) + wAll e (ix2 b 7) * rowAt X (idxAll e) b 7 d) (wAll e (ix2 b 8)) := rfl
  rw [hout, hz, hs, hw 0 (by decide), hw 1 (by decide), hw 2 (by decide), hw 3 (by decide), hw 4 (by decide), hw 5 (by decide),
    hw 6 (by decide), hw 7 (by decide), hrow 0 (by decide), hrow 1 (by decide), hrow 2 (by decide), hrow 3 (by decide),
    hrow 4 (by decide), hrow 5 (by decide), hrow 6 (by decide), hrow 7 (by decide)]
  simp only [← EReal.coe_mul, ← EReal.coe_add]
  rw [hden, Ideal.div_coe hpos, ← EReal.coe_mul, ← hnum]
  simp only [sum_range_succ, sum_range_zero, zero_add, ← add_assoc, mul_one_div]
  rfl

end Row

end Cert.KernelIdeal.Rounds8

end
-- ==== Proof.KernelValue.lean ====
module

public import proofs.«01_k».proof.Proof.KernelRun
public import proofs.«01_k».proof.Proof.RowValue
public import proofs.«01_k».proof.Proof.Scores
public import Idealize.ShloMosaic.Lib.Pipeline.ValueKit
public import Idealize.ShloMosaic.Lib.MatmulPlain

/-! The arrays the two calls leave, over extended reals: the scores, the columns' sums, the result. -/

@[expose] public section

set_option maxRecDepth 16384

noncomputable section

namespace Cert.KernelIdeal.Arrays

open Cert.KernelIdeal Cert.KernelIdeal.Gen
open Idealize.ShloMosaic hiding ix1 ix2 ix3 eq_ix2 eq_ix3
open Idealize.ShloMosaic.TcCoe
open Idealize.ShloMosaic.ValueIdx (ix1 ix2 ix3 eq_ix2 eq_ix3)
open Cert.Proof.Scores (product score)
open Finset

/-- A chunk's position among all positions. -/
abbrev pos (t : ℕ) (ht : t < 8) (j : Fin 1024) : Fin 8192 := ⟨t * 1024 + j.val, by have := j.isLt; omega⟩

theorem chunk_score (x : Vec Ideal S4x1024x768 .f32) (w : Vec Ideal S768x1 .f32) (b : Fin 4) (j : Fin 1024) :
    (k0_pay1 (F := Ideal) x w (ix2 b j) : EReal) = Ideal.tanh (∑ k : Fin 768, (x (ix3 b j k) : EReal) * w (ix2 k 0)) := by
  have hb := b.isLt
  have hj := j.isLt
  unfold k0_pay1
  refine (shapeCast_apply _ _ (ix2 b j) (ix2 (⟨b.val * 1024 + j.val, by omega⟩ : Fin 4096) (0 : Fin 1)) ?_).trans ?_
  · rw [Shape.rowMajor_val_two, Shape.rowMajor_val_two]
    show (b.val * 1024 + j.val) * 1 + 0 = b.val * 1024 + j.val
    omega
  refine congrArg Ideal.tanh ?_
  refine (Ideal.matmul_plain_apply none _ w _ (⟨b.val * 1024 + j.val, by omega⟩ : Fin 4096) (0 : Fin 1)).trans ?_
  refine (congrArg (fun z : EReal => z + _) (?_ : _ = (0 : EReal))).trans ((zero_add _).trans (sum_congr rfl fun k _ => ?_))
  · exact Cert.KernelIdeal.Rounds8.zero_eq
  refine congrArg (fun z : EReal => z * w (ix2 k 0)) (shapeCast_apply x _ _ (ix3 b j k) ?_)
  rw [Shape.rowMajor_val_three, Shape.rowMajor_val_two]
  rfl

theorem chunk_sum (x : Vec Ideal S4x1024x768 .f32) (b : Fin 4) (d : Fin 768) :
    (k0_pay2 (F := Ideal) x (ix2 b d) : EReal) = ∑ j : Fin 1024, (x (ix3 b j d) : EReal) := by
  unfold k0_pay2
  refine (multiReduction_add_apply (F := Ideal) x _ reduces_S4x1024x768_S4x768 (.inl rfl) rfl (ix2 b d)).trans ?_
  refine (Ideal.reduceAdd_r3_a1 reduces_S4x1024x768_S4x768 x (ix2 b d)).trans ?_
  refine sum_congr rfl fun k _ => congrArg x (funext fun a => ?_)
  match a with
  | ⟨0, _⟩ => rfl
  | ⟨1, _⟩ => rfl
  | ⟨2, _⟩ => rfl

theorem chunk_add (x : Vec Ideal S4x1024x768 .f32) (s : Vec Ideal S4x768 .f32) (b : Fin 4) (d : Fin 768) :
    (k0_pay3 (F := Ideal) x s (ix2 b d) : EReal) = s (ix2 b d) + ∑ j : Fin 1024, (x (ix3 b j d) : EReal) := by
  unfold k0_pay3
  show (shapeCast S4x768 s shapeCasts_S4x768_S4x768 (ix2 b d) : EReal) + k0_pay2 (F := Ideal) x (ix2 b d) = _
  rw [chunk_sum, shapeCast_apply s _ (ix2 b d) (ix2 b d) rfl]

variable (A : (c : Dev nD) → (b : Ref sig .tc) → Buf (Elt Ideal) ((c : Thread nD τ).loc b)) (c : Dev nD)

theorem index_0 : ∀ t : Fin cfg0.N, win0_0.index t = ![0, t.val, 0] := by decide +kernel
theorem index_1 : ∀ t : Fin cfg0.N, win0_1.index t = ![0, 0] := by decide +kernel
theorem index_2 : ∀ t : Fin cfg0.N, win0_2.index t = ![0, t.val] := by decide +kernel
theorem points : cfg0.N = 8 := by decide +kernel

theorem blk_input (t : Fin cfg0.N) (ht : t.val < 8) (b : Fin 4) (j : Fin 1024) (d : Fin 768) :
    (Pass.blk A c 0 t (ix3 b j d) : EReal) = A c main_arg0 (ix3 b (pos t.val ht j) d) := by
  blk_ext [Pass.blk, index_0 t]

theorem blk_weight (t : Fin cfg0.N) (k : Fin 768) :
    (Pass.blk A c 1 t (ix2 k 0) : EReal) = A c main_arg1 (ix2 k 0) := by
  blk_ext [Pass.blk, index_1 t]

/-- The scores the first call leaves. -/
theorem scores_array : ((Pass.dat A c).arrAt 2 cfg0.N : Vec Ideal S4x8192 .f32)
    = fun y => Ideal.tanh (product (A c main_arg0) (A c main_arg1) (y 0) (y 1)) := by
  refine (Pass.dat A c).arrAt_eq_of_covers 2 _ (by decide +kernel) fun t hf y => ?_
  blk_simp
  rw [Pass.after_2]
  have ht : t.val < 8 := Nat.lt_of_lt_of_eq t.isLt points
  obtain ⟨b, j, rfl⟩ : ∃ (b : Fin 4) (j : Fin 1024), y = ix2 b j := ⟨y 0, y 1, eq_ix2 y⟩
  have he : (win0_2.blk t).view.emb (ix2 b j) = ix2 b (pos t.val ht j) := by blk_ext [index_2 t]
  refine (chunk_score _ _ b j).trans ?_
  rw [he]
  refine congrArg Ideal.tanh (sum_congr rfl fun k _ => ?_)
  rw [blk_input A c t ht, blk_weight]
  rfl

/-- A column of the input. -/
def col (b : Fin 4) (d : Fin 768) (p : Fin 8192) : EReal := A c main_arg0 (ix3 b p d)

theorem sum_to (b : Fin 4) (d : Fin 768) : ∀ (n : ℕ) (h : n < cfg0.N),
    (Pass.sumTo A c n h (ix2 b d) : EReal)
      = ∑ q : Fin (n + 1), ∑ j : Fin 1024, col A c b d (pos q.val (by have := q.isLt; rw [points] at h; omega) j)
  | 0, h => by
    rw [Fin.sum_univ_one]
    exact (chunk_sum _ b d).trans (sum_congr rfl fun j _ => blk_input A c ⟨0, h⟩ (by norm_num) b j d)
  | n + 1, h => by
    rw [Fin.sum_univ_castSucc]
    refine (chunk_add _ _ b d).trans (congrArg₂ (fun z w : EReal => z + w) (sum_to b d n (Nat.lt_of_succ_lt h)) ?_)
    exact sum_congr rfl fun j _ => blk_input A c ⟨n + 1, h⟩ (by rw [points] at h; exact h) b j d

/-- A sum taken chunk by chunk. -/
theorem chunks (f : Fin 8192 → EReal) : (∑ q : Fin 8, ∑ j : Fin 1024, f (pos q.val q.isLt j)) = ∑ p : Fin 8192, f p := by
  refine (Fintype.sum_prod_type' (fun (q : Fin 8) (j : Fin 1024) => f (pos q.val q.isLt j))).symm.trans ?_
  refine Fintype.sum_equiv (finProdFinEquiv (m := 8) (n := 1024)) _ _ fun y => congrArg f (Fin.ext ?_)
  show y.1.val * 1024 + y.2.val = y.2.val + 1024 * y.1.val
  omega

theorem last_point : ∃ t : Fin cfg0.N, t.val = 7 ∧ (cfg0.win 3).WholeAt t := ⟨⟨7, by decide +kernel⟩, rfl, by decide +kernel⟩

theorem only_point : ∃ t : Fin cfg1.N, (cfg1.win 2).WholeAt t := ⟨⟨0, by decide +kernel⟩, by decide +kernel⟩

/-- The sums the first call leaves. -/
theorem sums_array (b : Fin 4) (d : Fin 768) :
    (((Pass.dat A c).arrAt 3 cfg0.N : Vec Ideal S4x768 .f32) (ix2 b d) : EReal) = ∑ p : Fin 8192, col A c b d p := by
  obtain ⟨t, h7, hw⟩ := last_point
  have h : ((Pass.dat A c).arrAt 3 cfg0.N : Vec Ideal S4x768 .f32) = Pass.sumTo A c t.val t.isLt := by
    refine (Pass.dat A c).arrAt_eq_of_after_last 3 t hw _ fun j => ?_
    blk_simp
    rw [Pass.after_3]
  rw [h, sum_to, ← chunks]
  obtain ⟨n, hn⟩ := t
  obtain rfl : n = 7 := h7
  rfl

theorem index_tail : ∀ t : Fin cfg1.N, win1_0.index t = ![0, 0] ∧ win1_1.index t = ![0, 0] := by decide +kernel

theorem tail_scores (t : Fin cfg1.N) : (TailRegion.blk A c 0 t : Vec Ideal S4x8192 .f32) = A c main_v0_0 := by
  funext y
  obtain ⟨b, k, rfl⟩ : ∃ (b : Fin 4) (k : Fin 8192), y = ix2 b k := ⟨y 0, y 1, eq_ix2 y⟩
  blk_ext [TailRegion.blk, (index_tail t).1]

theorem tail_sums (t : Fin cfg1.N) : (TailRegion.blk A c 1 t : Vec Ideal S4x768 .f32) = A c main_v0_1 := by
  funext y
  obtain ⟨b, k, rfl⟩ : ∃ (b : Fin 4) (k : Fin 768), y = ix2 b k := ⟨y 0, y 1, eq_ix2 y⟩
  blk_ext [TailRegion.blk, (index_tail t).2]

/-- The result the second call leaves. -/
theorem result_array : ((TailRegion.dat A c).arrAt 2 cfg1.N : Vec Ideal S4x768 .f32)
    = Tail.tailOut (F := Ideal) (A c main_v0_0) (A c main_v0_1) (A c main_arg0) := by
  obtain ⟨t, hw⟩ := only_point
  refine (TailRegion.dat A c).arrAt_eq_of_after_last 2 t hw _ fun j => ?_
  blk_simp
  rw [TailRegion.after_2]
  unfold TailRegion.result
  rw [tail_scores, tail_sums]
  rfl

/-- One entry of the kernel's result. -/
theorem value (m : (ℓ : Loc nD τ sig) → Buf (Elt Ideal) ℓ) (c : Dev nD) (b : Fin 4) (d : Fin 768)
    (X : Vec Ideal S4x8192x768 .f32) (hX : X = m ((c : Thread nD τ).loc main_arg0))
    (W : Vec Ideal S768x1 .f32) (hW : W = m ((c : Thread nD τ).loc main_arg1)) (t : ℝ)
    (ht : Cert.Proof.Top.IsFifth (fun j : Fin 8192 => ((score X W b j : ℝ) : EReal)) (t : EReal))
    (few : (univ.filter fun j : Fin 8192 => t ≤ score X W b j).card ≤ 8 ∨ t = 0)
    (x : Fin 8192 → ℝ) (hx : ∀ j, (X (ix3 b j d) : EReal) = ((x j : ℝ) : EReal)) :
    (((TailRegion.dat (Whole.W1 m) c).arrAt 2 cfg1.N : Vec Ideal S4x768 .f32) (ix2 b d) : EReal)
      = (((∑ j, x j * Real.exp (Cert.Proof.Top.gated (score X W b) t j))
          / ∑ j, Real.exp (Cert.Proof.Top.gated (score X W b) t j) : ℝ) : EReal) := by
  subst hX hW
  rw [result_array, Whole.W1_scores, Whole.W1_sum, Whole.W1_of m c main_arg0 (by decide) (by decide)]
  refine Rounds8.tail_value _ b _ (fun j => ?_) (fun j => Cert.Proof.Scores.score_low _ _ b j) t ht few _ _ d x hx ?_
  · refine (congrFun (scores_array (Whole.W0 m) c) (ix2 b j)).trans ?_
    exact Cert.Proof.Scores.tanh_eq _ _ b j
  · have hc : ∀ j ∈ (univ : Finset (Fin 8192)), col (Whole.W0 m) c b d j = ((x j : ℝ) : EReal) := fun j _ => hx j
    exact (sums_array (Whole.W0 m) c b d).trans ((sum_congr rfl hc).trans (Rounds8.coe_sum univ x).symm)

end Cert.KernelIdeal.Arrays

end
-- ==== Proof.lean ====
module

public import proofs.«01_k».proof.Defs
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Condition
public import proofs.«01_k».proof.Proof.Reference
public import proofs.«01_k».proof.Proof.KernelValue

/-! The claims, put together. -/

@[expose] public section

noncomputable section

namespace Cert.Proof

open Idealize.ShloMosaic hiding ix1 ix2 ix3 eq_ix2 eq_ix3
open Idealize.ShloMosaic.TcCoe
open Idealize.ShloMosaic.ValueIdx (ix2 ix3 eq_ix2)
open Idealize.SL.Sem

/-- Under the precondition both programs leave the same result. -/
theorem results_equal (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h1 : (Cert.Pre_finite_with_few_ties.fn (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))).1 = fun _ => 1#1)
    (h2 : (Cert.Pre_finite_with_few_ties.fn (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))).2 = fun _ => 1#1)
    (e0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    (Cert.ReferenceIdeal.Value.res_main_v22 m' c : Vec Ideal Cert.KernelIdeal.S4x768 .f32)
      = (Cert.KernelIdeal.TailRegion.dat (Cert.KernelIdeal.Whole.W1 m) c).arrAt 2 Cert.KernelIdeal.cfg1.N := by
  rw [Cert.ReferenceIdeal.Whole.result_eq, e0, e1]
  funext y
  obtain ⟨b, d, rfl⟩ : ∃ (b : Fin 4) (d : Fin 768), y = ix2 b d := ⟨y 0, y 1, eq_ix2 y⟩
  obtain ⟨t, -, ht, few⟩ := Condition.few _ _ h2 b
  choose x hx using fun j : Fin 8192 => Condition.real _ _ h1 (ix3 b j d)
  exact (Cert.ReferenceIdeal.Whole.value _ _ b d t ht x hx).trans
    (Cert.KernelIdeal.Arrays.value m c b d _ rfl _ rfl t ht few x hx).symm

/-- The kernel computes the reference. -/
theorem algebraic : Cert.algebraic_KernelIdeal_ReferenceIdeal_pre_finite_with_few_ties := by
  intro m g m' g' hpre hargs
  refine ⟨fun c => (Cert.KernelIdeal.TailRegion.dat (Cert.KernelIdeal.Whole.W1 m) c).arrAt 2 Cert.KernelIdeal.cfg1.N, ?_, ?_⟩
  · exact (θ_run Cert.KernelIdeal.defs _ _).mono (fun _ h => h.1)
      (Cert.KernelIdeal.Whole.run_main (F := Ideal) m g (inside m))
  · refine (θ_run Cert.ReferenceIdeal.defs _ _).mono (fun r h c => ?_) (Cert.ReferenceIdeal.Value.run (F := Ideal) m' g')
    exact ⟨(h c).1.trans (results_equal m m' c (hpre c).1 (hpre c).2 (hargs c).1 (hargs c).2), (h c).2⟩

theorem claim : Cert.Claim :=
  ⟨Cert.KernelIdeal.Gen.facts, Cert.ReferenceIdeal.Gen.facts, Condition.facts,
    fun m g _ => kernel_frame m g, fun m g _ => kernel_frame m g,
    fun m g _ => reference_frame m g, fun m g _ => reference_frame m g, algebraic⟩

end Cert.Proof
